-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![2, 128, 8, 64]⟩ ⟨4, ![2, 512, 8, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![2, 128, 8, 64]⟩ ⟨4, ![2, 512, 8, 64]⟩ 1 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x512 : Shape := ⟨2, ![512, 512]⟩
abbrev S2x128x8x64 : Shape := ⟨4, ![2, 128, 8, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2x128x8x64 : S_.BroadcastsInDim S2x128x8x64 (![] : Fin 0 → Fin S2x128x8x64.rank)
  reducesTo_S2x128x8x64_S_d0_1_2_3 : S2x128x8x64.ReducesTo [0, 1, 2, 3] S_

variable [Facts]

def fn {F : FTy → Type} [FloatOps F] (main_arg0 : FVec F S2x128x512 .f32) (main_arg1 : FVec F S512x512 .f32) (main_arg2 : FVec F S512x512 .f32) (main_arg3 : FVec F S2x128x8x64 .f32) (main_arg4 : FVec F S2x128x8x64 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S2x128x8x64 .f32 := Host.absf main_arg3
  let main_cst_2 : FVec F S_ .f32 := constant S_ .f32 0x7F800000#32
  let main_v10 : FVec F S2x128x8x64 .f32 := broadcastInDim S2x128x8x64 ![] bcast_S_S2x128x8x64 main_cst_2
  let main_v11 : IVec S2x128x8x64 1 := cmpf .olt main_v9 main_v10
  let main_c_3 : IVec S_ 1 := constantI S_ 1 1#1
  let main_v12 : IVec S_ 1 := (fun x v => Host.reduce IntOp.andi x v reducesTo_S2x128x8x64_S_d0_1_2_3 h_S_) main_v11 main_c_3
  let main_v13 : IVec S_ 1 := andi main_v8 main_v12
  main_v13
-- ==== Pre_finite_scores_ReferenceIdeal.lean ====
abbrev S2x128x512 : Shape := ⟨3, ![2, 128, 512]⟩
abbrev S512x512 : Shape := ⟨2, ![512, 512]⟩
abbrev S2x512x8x64 : Shape := ⟨4, ![2, 512, 8, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x128x512 .f32) (main_arg1 : FVec F S512x512 .f32) (main_arg2 : FVec F S512x512 .f32) (main_arg3 : FVec F S2x512x8x64 .f32) (main_arg4 : FVec F S2x512x8x64 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S2x512x8x64 .f32 := Host.absf main_arg3
  let main_cst_2 : FVec F S_ .f32 := constant S_ .f32 0x7F800000#32
  let main_v10 : FVec F S2x512x8x64 .f32 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Kernel.lean ====
abbrev S2x128x512 : Shape := ⟨3, ![2, 128, 512]⟩
abbrev S512x512 : Shape := ⟨2, ![512, 512]⟩
abbrev S2x128x8x64 : Shape := ⟨4, ![2, 128, 8, 64]⟩
abbrev S256x512 : Shape := ⟨2, ![256, 512]⟩
abbrev S256x640 : Shape := ⟨2, ![256, 640]⟩
abbrev S4x64x640 : Shape := ⟨3, ![4, 64, 640]⟩
abbrev S64x512 : Shape := ⟨2, ![64, 512]⟩
abbrev S4x64x512 : Shape := ⟨3, ![4, 64, 512]⟩
abbrev S5 : Shape := ⟨1, ![5]⟩
abbrev S3 : Shape := ⟨1, ![3]⟩
abbrev S4 : Shape := ⟨1, ![4]⟩
abbrev S1 : Shape := ⟨1, ![1]⟩
abbrev S_ : Shape := ⟨0, ![]⟩
abbrev S256x128 : Shape := ⟨2, ![256, 128]⟩
abbrev S256x256 : Shape := ⟨2, ![256, 256]⟩
abbrev S256x64 : Shape := ⟨2, ![256, 64]⟩
abbrev S256 : Shape := ⟨1, ![256]⟩
abbrev S256x1 : Shape := ⟨2, ![256, 1]⟩
abbrev S256x8 : Shape := ⟨2, ![256, 8]⟩
abbrev S1x64x640 : Shape := ⟨3, ![1, 64, 640]⟩
abbrev S64x640 : Shape := ⟨2, ![64, 640]⟩
abbrev S64x8 : Shape := ⟨2, ![64, 8]⟩
abbrev S64x64 : Shape := ⟨2, ![64, 64]⟩
abbrev S64x1 : Shape := ⟨2, ![64, 1]⟩
abbrev S1x64x512 : Shape := ⟨3, ![1, 64, 512]⟩

abbrev nBuf : Space → Nat
  | .hbm => 10
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S2x128x8x64, .f32⟩
  | .hbm, ⟨4, _⟩ => ⟨S2x128x8x64, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S2x128x512, .f32⟩
  | .local _ .vmem, ⟨0, _⟩ => ⟨S256x512, .f32⟩
  | .local _ .vmem, ⟨1, _⟩ => ⟨S256x512, .f32⟩
  | .local _ .vmem, ⟨2, _⟩ => ⟨S512x512, .f32⟩
  | .local _ .vmem, ⟨3, _⟩ => ⟨S512x512, .f32⟩
  | .local _ .vmem, ⟨4, _⟩ => ⟨S256x512, .f32⟩
  | .local _ .vmem, ⟨5, _⟩ => ⟨S256x512, .f32⟩
  | .local _ .vmem, ⟨6, _⟩ => ⟨S256x640, .bf16⟩
  | .local _ .vmem, ⟨7, _⟩ => ⟨S4x64x640, .bf16⟩
  | .local _ .vmem, ⟨8, _⟩ => ⟨S64x512, .bf16⟩
  | .local _ .vmem, ⟨9, _⟩ => ⟨S4x64x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v14 : BitVec 32 := Scalar.addi v2 c1_i32_2
  let c4_i32_3 : BitVec 32 := 4#32
  let c0_i32_4 : BitVec 32 := 0#32
  let v15 : BitVec 1 := Scalar.cmpi .eq c4_i32_3 c0_i32_4
  let c1_i32_5 : BitVec 32 := 1#32
  let v16 : BitVec 32 := Scalar.select v15 c1_i32_5 c4_i32_3
  let v17 : BitVec 32 := Scalar.remsi v14 v16
  let c0_i32_7 : BitVec 32 := 0#32
  let v19 : BitVec 1 := Scalar.cmpi .slt v17 c0_i32_7
  let c0_i32_8 : BitVec 32 := 0#32
  let v20 : BitVec 1 := Scalar.cmpi .slt v16 c0_i32_8
  let v21 : BitVec 1 := Scalar.xori v19 v20
  let c0_i32_6 : BitVec 32 := 0#32
  let v18 : BitVec 1 := Scalar.cmpi .ne v17 c0_i32_6
  let v22 : BitVec 1 := Scalar.andi v21 v18
  let v23 : BitVec 32 := Scalar.addi v17 v16
  let v24 : BitVec 32 := Scalar.select v22 v23 v17
  let c1_i32_10 : BitVec 32 := 1#32
  let v25 : BitVec 32 := Scalar.muli v24 c1_i32_10
  let v26 : BitVec 32 := Scalar.addi c0_i32_11 v25
  v26.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_12 : BitVec 32 := 2#32
  let v27 : BitVec 32 := Scalar.addi v2 c2_i32_12
  let c4_i32_13 : BitVec 32 := 4#32
  let c0_i32_14 : BitVec 32 := 0#32
  let v28 : BitVec 1 := Scalar.cmpi .eq c4_i32_13 c0_i32_14
  let c1_i32_15 : BitVec 32 := 1#32
  let v29 : BitVec 32 := Scalar.select v28 c1_i32_15 c4_i32_13
  let v30 : BitVec 32 := Scalar.remsi v27 v29
  let c0_i32_17 : BitVec 32 := 0#32
  let v32 : BitVec 1 := Scalar.cmpi .slt v30 c0_i32_17
  let c0_i32_18 : BitVec 32 := 0#32
  let v33 : BitVec 1 := Scalar.cmpi .slt v29 c0_i32_18
  let v34 : BitVec 1 := Scalar.xori v32 v33
  let c0_i32_16 : BitVec 32 := 0#32
  let v31 : BitVec 1 := Scalar.cmpi .ne v30 c0_i32_16
  let v35 : BitVec 1 := Scalar.andi v34 v31
  let v36 : BitVec 32 := Scalar.addi v30 v29
  let v37 : BitVec 32 := Scalar.select v35 v36 v30
  let c1_i32_20 : BitVec 32 := 1#32
  let v38 : BitVec 32 := Scalar.muli v37 c1_i32_20
  let v39 : BitVec 32 := Scalar.addi c0_i32_21 v38
  v39.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_22 : BitVec 32 := 3#32
  let v40 : BitVec 32 := Scalar.addi v2 c3_i32_22
  let c4_i32_23 : BitVec 32 := 4#32
  let c0_i32_24 : BitVec 32 := 0#32
  let v41 : BitVec 1 := Scalar.cmpi .eq c4_i32_23 c0_i32_24
  let c1_i32_25 : BitVec 32 := 1#32
  let v42 : BitVec 32 := Scalar.select v41 c1_i32_25 c4_i32_23
  let v43 : BitVec 32 := Scalar.remsi v40 v42
  let c0_i32_27 : BitVec 32 := 0#32
  let v45 : BitVec 1 := Scalar.cmpi .slt v43 c0_i32_27
  let c0_i32_28 : BitVec 32 := 0#32
  let v46 : BitVec 1 := Scalar.cmpi .slt v42 c0_i32_28
  let v47 : BitVec 1 := Scalar.xori v45 v46
  let c0_i32_26 : BitVec 32 := 0#32
  let v44 : BitVec 1 := Scalar.cmpi .ne v43 c0_i32_26
  let v48 : BitVec 1 := Scalar.andi v47 v44
  let v49 : BitVec 32 := Scalar.addi v43 v42
  let v50 : BitVec 32 := Scalar.select v48 v49 v43
  let c1_i32_30 : BitVec 32 := 1#32
  let v51 : BitVec 32 := Scalar.muli v50 c1_i32_30
  let v52 : BitVec 32 := Scalar.addi c0_i32_31 v51
  v52.toNat
def k0_off1 (d0 : Dev nD) (c1_i32_88 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v234 : BitVec 32 := Scalar.addi v2 c1_i32_88
  let c4_i32_89 : BitVec 32 := 4#32
  let c0_i32_90 : BitVec 32 := 0#32
  let v235 : BitVec 1 := Scalar.cmpi .eq c4_i32_89 c0_i32_90
  let c1_i32_91 : BitVec 32 := 1#32
  let v236 : BitVec 32 := Scalar.select v235 c1_i32_91 c4_i32_89
  let v237 : BitVec 32 := Scalar.remsi v234 v236
  let c0_i32_93 : BitVec 32 := 0#32
  let v239 : BitVec 1 := Scalar.cmpi .slt v237 c0_i32_93
  let c0_i32_94 : BitVec 32 := 0#32
  let v240 : BitVec 1 := Scalar.cmpi .slt v236 c0_i32_94
  let v241 : BitVec 1 := Scalar.xori v239 v240
  let c0_i32_92 : BitVec 32 := 0#32
  let v238 : BitVec 1 := Scalar.cmpi .ne v237 c0_i32_92
  let v242 : BitVec 1 := Scalar.andi v241 v238
  let v243 : BitVec 32 := Scalar.addi v237 v236
  let v244 : BitVec 32 := Scalar.select v242 v243 v237
  let c64_i32 : BitVec 32 := 64#32
  let v245 : BitVec 32 := Scalar.muli v244 c64_i32
  let c0_i32_102 : BitVec 32 := 0#32
  ![v245.toNat, 0]
def k0_dev4 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_88 : BitVec 32 := 1#32
  let v234 : BitVec 32 := Scalar.addi v2 c1_i32_88
  let c4_i32_89 : BitVec 32 := 4#32
  let c0_i32_90 : BitVec 32 := 0#32
  let v235 : BitVec 1 := Scalar.cmpi .eq c4_i32_89 c0_i32_90
  let c1_i32_91 : BitVec 32 := 1#32
  let v236 : BitVec 32 := Scalar.select v235 c1_i32_91 c4_i32_89
  let v237 : BitVec 32 := Scalar.remsi v234 v236
  let c0_i32_93 : BitVec 32 := 0#32
  let v239 : BitVec 1 := Scalar.cmpi .slt v237 c0_i32_93
  let c0_i32_94 : BitVec 32 := 0#32
  let v240 : BitVec 1 := Scalar.cmpi .slt v236 c0_i32_94
  let v241 : BitVec 1 := Scalar.xori v239 v240
  let c0_i32_92 : BitVec 32 := 0#32
  let v238 : BitVec 1 := Scalar.cmpi .ne v237 c0_i32_92
  let v242 : BitVec 1 := Scalar.andi v241 v238
  let v243 : BitVec 32 := Scalar.addi v237 v236
  let v244 : BitVec 32 := Scalar.select v242 v243 v237
  let c1_i32_98 : BitVec 32 := 1#32
  let v246 : BitVec 32 := Scalar.muli v244 c1_i32_98
  let v247 : BitVec 32 := Scalar.addi c0_i32_99 v246
  v247.toNat
def k0_dev5 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_103 : BitVec 32 := 2#32
  let v255 : BitVec 32 := Scalar.addi v2 c2_i32_103
  let c4_i32_104 : BitVec 32 := 4#32
  let c0_i32_105 : BitVec 32 := 0#32
  let v256 : BitVec 1 := Scalar.cmpi .eq c4_i32_104 c0_i32_105
  let c1_i32_106 : BitVec 32 := 1#32
  let v257 : BitVec 32 := Scalar.select v256 c1_i32_106 c4_i32_104
  let v258 : BitVec 32 := Scalar.remsi v255 v257
  let c0_i32_108 : BitVec 32 := 0#32
  let v260 : BitVec 1 := Scalar.cmpi .slt v258 c0_i32_108
  let c0_i32_109 : BitVec 32 := 0#32
  let v261 : BitVec 1 := Scalar.cmpi .slt v257 c0_i32_109
  let v262 : BitVec 1 := Scalar.xori v260 v261
  let c0_i32_107 : BitVec 32 := 0#32
  let v259 : BitVec 1 := Scalar.cmpi .ne v258 c0_i32_107
  let v263 : BitVec 1 := Scalar.andi v262 v259
  let v264 : BitVec 32 := Scalar.addi v258 v257
  let v265 : BitVec 32 := Scalar.select v263 v264 v258
  let c1_i32_114 : BitVec 32 := 1#32
  let v267 : BitVec 32 := Scalar.muli v265 c1_i32_114
  let v268 : BitVec 32 := Scalar.addi c0_i32_115 v267
  v268.toNat
def k0_dev6 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_119 : BitVec 32 := 3#32
  let v276 : BitVec 32 := Scalar.addi v2 c3_i32_119
  let c4_i32_120 : BitVec 32 := 4#32
  let c0_i32_121 : BitVec 32 := 0#32
  let v277 : BitVec 1 := Scalar.cmpi .eq c4_i32_120 c0_i32_121
  let c1_i32_122 : BitVec 32 := 1#32
  let v278 : BitVec 32 := Scalar.select v277 c1_i32_122 c4_i32_120
  let v279 : BitVec 32 := Scalar.remsi v276 v278
  let c0_i32_124 : BitVec 32 := 0#32
  let v281 : BitVec 1 := Scalar.cmpi .slt v279 c0_i32_124
  let c0_i32_125 : BitVec 32 := 0#32
  let v282 : BitVec 1 := Scalar.cmpi .slt v278 c0_i32_125
  let v283 : BitVec 1 := Scalar.xori v281 v282
  let c0_i32_123 : BitVec 32 := 0#32
  let v280 : BitVec 1 := Scalar.cmpi .ne v279 c0_i32_123
  let v284 : BitVec 1 := Scalar.andi v283 v280
  let v285 : BitVec 32 := Scalar.addi v279 v278
  let v286 : BitVec 32 := Scalar.select v284 v285 v279
  let c1_i32_130 : BitVec 32 := 1#32
  let v288 : BitVec 32 := Scalar.muli v286 c1_i32_130
  let v289 : BitVec 32 := Scalar.addi c0_i32_131 v288
  v289.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_180 : BitVec 32 := 64#32
  let v333 : BitVec 32 := Scalar.muli v2 c64_i32_180
  let v334 : Index := Scalar.indexCast v333
  let c0_181 : Index := 0#32
  ![v334.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_193 : BitVec 32 := 64#32
  let v398 : BitVec 32 := Scalar.muli v2 c64_i32_193
  let v399 : Index := Scalar.indexCast v398
  let c0_194 : Index := 0#32
  ![v399.toNat, 0]
def k0_dev7 (d0 : Dev nD) : Nat :=
  let c0_i32_208 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_197 : BitVec 32 := 1#32
  let v405 : BitVec 32 := Scalar.addi v2 c1_i32_197
  let c4_i32_198 : BitVec 32 := 4#32
  let c0_i32_199 : BitVec 32 := 0#32
  let v406 : BitVec 1 := Scalar.cmpi .eq c4_i32_198 c0_i32_199
  let c1_i32_200 : BitVec 32 := 1#32
  let v407 : BitVec 32 := Scalar.select v406 c1_i32_200 c4_i32_198
  let v408 : BitVec 32 := Scalar.remsi v405 v407
  let c0_i32_202 : BitVec 32 := 0#32
  let v410 : BitVec 1 := Scalar.cmpi .slt v408 c0_i32_202
  let c0_i32_203 : BitVec 32 := 0#32
  let v411 : BitVec 1 := Scalar.cmpi .slt v407 c0_i32_203
  let v412 : BitVec 1 := Scalar.xori v410 v411
  let c0_i32_201 : BitVec 32 := 0#32
  let v409 : BitVec 1 := Scalar.cmpi .ne v408 c0_i32_201
  let v413 : BitVec 1 := Scalar.andi v412 v409
  let v414 : BitVec 32 := Scalar.addi v408 v407
  let v415 : BitVec 32 := Scalar.select v413 v414 v408
  let c1_i32_207 : BitVec 32 := 1#32
  let v416 : BitVec 32 := Scalar.muli v415 c1_i32_207
  let v417 : BitVec 32 := Scalar.addi c0_i32_208 v416
  v417.toNat
def k0_dev8 (d0 : Dev nD) : Nat :=
  let c0_i32_222 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_211 : BitVec 32 := 2#32
  let v424 : BitVec 32 := Scalar.addi v2 c2_i32_211
  let c4_i32_212 : BitVec 32 := 4#32
  let c0_i32_213 : BitVec 32 := 0#32
  let v425 : BitVec 1 := Scalar.cmpi .eq c4_i32_212 c0_i32_213
  let c1_i32_214 : BitVec 32 := 1#32
  let v426 : BitVec 32 := Scalar.select v425 c1_i32_214 c4_i32_212
  let v427 : BitVec 32 := Scalar.remsi v424 v426
  let c0_i32_216 : BitVec 32 := 0#32
  let v429 : BitVec 1 := Scalar.cmpi .slt v427 c0_i32_216
  let c0_i32_217 : BitVec 32 := 0#32
  let v430 : BitVec 1 := Scalar.cmpi .slt v426 c0_i32_217
  let v431 : BitVec 1 := Scalar.xori v429 v430
  let c0_i32_215 : BitVec 32 := 0#32
  let v428 : BitVec 1 := Scalar.cmpi .ne v427 c0_i32_215
  let v432 : BitVec 1 := Scalar.andi v431 v428
  let v433 : BitVec 32 := Scalar.addi v427 v426
  let v434 : BitVec 32 := Scalar.select v432 v433 v427
  let c1_i32_221 : BitVec 32 := 1#32
  let v435 : BitVec 32 := Scalar.muli v434 c1_i32_221
  let v436 : BitVec 32 := Scalar.addi c0_i32_222 v435
  v436.toNat
def k0_dev9 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_225 : BitVec 32 := 3#32
  let v443 : BitVec 32 := Scalar.addi v2 c3_i32_225
  let c4_i32_226 : BitVec 32 := 4#32
  let c0_i32_227 : BitVec 32 := 0#32
  let v444 : BitVec 1 := Scalar.cmpi .eq c4_i32_226 c0_i32_227
  let c1_i32_228 : BitVec 32 := 1#32
  let v445 : BitVec 32 := Scalar.select v444 c1_i32_228 c4_i32_226
  let v446 : BitVec 32 := Scalar.remsi v443 v445
  let c0_i32_230 : BitVec 32 := 0#32
  let v448 : BitVec 1 := Scalar.cmpi .slt v446 c0_i32_230
  let c0_i32_231 : BitVec 32 := 0#32
  let v449 : BitVec 1 := Scalar.cmpi .slt v445 c0_i32_231
  let v450 : BitVec 1 := Scalar.xori v448 v449
  let c0_i32_229 : BitVec 32 := 0#32
  let v447 : BitVec 1 := Scalar.cmpi .ne v446 c0_i32_229
  let v451 : BitVec 1 := Scalar.andi v450 v447
  let v452 : BitVec 32 := Scalar.addi v446 v445
  let v453 : BitVec 32 := Scalar.select v451 v452 v446
  let c1_i32_235 : BitVec 32 := 1#32
  let v454 : BitVec 32 := Scalar.muli v453 c1_i32_235
  let v455 : BitVec 32 := Scalar.addi c0_i32_236 v454
  v455.toNat
def k0_off4 (d0 : Dev nD) (c1_i32_278 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v492 : BitVec 32 := Scalar.addi v2 c1_i32_278
  let c4_i32_279 : BitVec 32 := 4#32
  let c0_i32_280 : BitVec 32 := 0#32
  let v493 : BitVec 1 := Scalar.cmpi .eq c4_i32_279 c0_i32_280
  let c1_i32_281 : BitVec 32 := 1#32
  let v494 : BitVec 32 := Scalar.select v493 c1_i32_281 c4_i32_279
  let v495 : BitVec 32 := Scalar.remsi v492 v494
  let c0_i32_283 : BitVec 32 := 0#32
  let v497 : BitVec 1 := Scalar.cmpi .slt v495 c0_i32_283
  let c0_i32_284 : BitVec 32 := 0#32
  let v498 : BitVec 1 := Scalar.cmpi .slt v494 c0_i32_284
  let v499 : BitVec 1 := Scalar.xori v497 v498
  let c0_i32_282 : BitVec 32 := 0#32
  let v496 : BitVec 1 := Scalar.cmpi .ne v495 c0_i32_282
  let v500 : BitVec 1 := Scalar.andi v499 v496
  let v501 : BitVec 32 := Scalar.addi v495 v494
  let v502 : BitVec 32 := Scalar.select v500 v501 v495
  let c64_i32_288 : BitVec 32 := 64#32
  let v506 : BitVec 32 := Scalar.muli v502 c64_i32_288
  let v507 : Index := Scalar.indexCast v506
  let c0_289 : Index := 0#32
  ![v507.toNat, 0]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x128x512 : Shape := ⟨3, ![2, 128, 512]⟩
abbrev S512x512 : Shape := ⟨2, ![512, 512]⟩
abbrev S2x512x8x64 : Shape := ⟨4, ![2, 512, 8, 64]⟩
abbrev S2x128x8x64 : Shape := ⟨4, ![2, 128, 8, 64]⟩
abbrev S_ : Shape := ⟨0, ![]⟩
abbrev S2x8x128x1 : Shape := ⟨4, ![2, 8, 128, 1]⟩
abbrev S2x8x128x512 : Shape := ⟨4, ![2, 8, 128, 512]⟩
abbrev S2x8x128 : Shape := ⟨3, ![2, 8, 128]⟩
abbrev S2x128x8x1 : Shape := ⟨4, ![2, 128, 8, 1]⟩
abbrev S2x8x64x128 : Shape := ⟨4, ![2, 8, 64, 128]⟩

abbrev nBuf : Space → Nat
  | .hbm => 42
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S2x512x8x64, .f32⟩
  | .hbm, ⟨4, _⟩ => ⟨S2x512x8x64, .f32⟩
  | .hbm, ⟨5, _⟩ => ⟨S2x128x512, .f32⟩
  | .hbm, ⟨6, _⟩ => ⟨S2x128x8x64, .f32⟩
  | .hbm, ⟨7, _⟩ => ⟨S_, .f32⟩
  | .hbm, ⟨8, _⟩ => ⟨S2x128x8x64, .f32⟩
  | .hbm, ⟨9, _⟩ => ⟨S_, .f32⟩
  | .hbm, ⟨10, _⟩ => ⟨S2x8x128x1, .f32⟩
  | .hbm, ⟨11, _⟩ => ⟨S_, .f32⟩
  | .hbm, ⟨12, _⟩ => ⟨S2x8x128x1, .f32⟩
  | .hbm, ⟨13, _⟩ => ⟨S2x8x128x512, .f32⟩
  | .hbm, ⟨14, _⟩ => ⟨S_, .f32⟩
  | .hbm, ⟨15, _⟩ => ⟨S2x8x128x512, .f32⟩
  | .hbm, ⟨16, _⟩ => ⟨S2x8x128x512, .f32⟩
  | .hbm, ⟨17, _⟩ => ⟨S_, .f32⟩
  | .hbm, ⟨18, _⟩ => ⟨S2x8x128, .f32⟩
  | .hbm, ⟨19, _⟩ => ⟨S2x8x128x1, .f32⟩
  | .hbm, ⟨20, _⟩ => ⟨S2x8x128x1, .f32⟩
  | .hbm, ⟨21, _⟩ => ⟨S2x8x128x1, .f32⟩
  | .hbm, ⟨22, _⟩ => ⟨S2x8x128x1, .f32⟩
  | .hbm, ⟨23, _⟩ => ⟨S2x8x128x512, .f32⟩
  | .hbm, ⟨24, _⟩ => ⟨S2x8x128x512, .f32⟩
  | .hbm, ⟨25, _⟩ => ⟨S2x8x128x512, .f32⟩
  | .hbm, ⟨26, _⟩ => ⟨S2x8x128x1, .f32⟩
  | .hbm, ⟨27, _⟩ => ⟨S_, .f32⟩
  | .hbm, ⟨28, _⟩ => ⟨S2x8x128, .f32⟩
  | .hbm, ⟨29, _⟩ => ⟨S2x8x128x1, .f32⟩
  | .hbm, ⟨30, _⟩ => ⟨S2x8x128x1, .f32⟩
  | .hbm, ⟨31, _⟩ => ⟨S2x128x8x1, .f32⟩
  | .hbm, ⟨32, _⟩ => ⟨S2x128x8x64, .f32⟩
  | .hbm, ⟨33, _⟩ => ⟨S2x128x8x64, .f32⟩
  | .hbm, ⟨34, _⟩ => ⟨S2x8x64x128, .f32⟩
  | .hbm, ⟨35, _⟩ => ⟨S2x128x8x64, .f32⟩
  | .hbm, ⟨36, _⟩ => ⟨S2x128x8x64, .f32⟩
  | .hbm, ⟨37, _⟩ => ⟨S2x128x8x1, .f32⟩
  | .hbm, ⟨38, _⟩ => ⟨S2x128x8x64, .f32⟩
  | .hbm, ⟨39, _⟩ => ⟨S2x128x8x64, .f32⟩
  | .hbm, ⟨40, _⟩ => ⟨S2x128x512, .f32⟩
  | .hbm, ⟨41, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Common.lean ====
/-
  The ring of four devices of the kernel: peers, the contents every buffer holds on the way, the cells, the schedule of
  what each semaphore is paid and what the payment hands over, what each core owes and the levels. Over any float type.
-/
module

public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Pipeline.RegionTalk
public import Idealize.ShloMosaic.Lib.ValueIdxCore
public import Idealize.ShloMosaic.Lib.Ring.Trips

@[expose] public section

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Cert.KernelIdeal Cert.KernelIdeal.Gen

variable {F : FTy → Type} [FloatOps F]

/-! ## Peers -/

/-- The device at distance `d` from device `c`. -/
def rot (c : Dev nD) (d : Fin 4) : Dev nD := ⟨(c.val + d.val) % 4, Nat.mod_lt _ (by decide)⟩
/-- The distance back. -/
def opp (d : Fin 4) : Fin 4 := ⟨(4 - d.val) % 4, Nat.mod_lt _ (by decide)⟩

/-- Going a distance and back again. -/
theorem rot_opp (c : Dev nD) (d : Fin 4) : rot (rot c d) (opp d) = c := by revert c d; decide
/-- Going back first. -/
theorem rot_opp' (c : Dev nD) (d : Fin 4) : rot (rot c (opp d)) d = c := by revert c d; decide
/-- Distances are turned round twice. -/
theorem opp_opp (d : Fin 4) : opp (opp d) = d := by revert d; decide
theorem opp_1 : opp 1 = 3 := by decide
theorem opp_2 : opp 2 = 2 := by decide
theorem opp_3 : opp 3 = 1 := by decide
theorem rot_zero (c : Dev nD) : rot c 0 = c := by revert c; decide

/-- The devices the program names are the peers at distances one, two and three. -/
theorem dev1_eq (c : Dev nD) : (⟨k0_dev1 c, Gen.k0_dev1_lt c⟩ : Dev nD) = rot c 1 := by revert c; decide +kernel
theorem dev2_eq (c : Dev nD) : (⟨k0_dev2 c, Gen.k0_dev2_lt c⟩ : Dev nD) = rot c 2 := by revert c; decide +kernel
theorem dev3_eq (c : Dev nD) : (⟨k0_dev3 c, Gen.k0_dev3_lt c⟩ : Dev nD) = rot c 3 := by revert c; decide +kernel
theorem dev4_eq (c : Dev nD) : (⟨k0_dev4 c, Gen.k0_dev4_lt c⟩ : Dev nD) = rot c 1 := by revert c; decide +kernel
theorem dev5_eq (c : Dev nD) : (⟨k0_dev5 c, Gen.k0_dev5_lt c⟩ : Dev nD) = rot c 2 := by revert c; decide +kernel
theorem dev6_eq (c : Dev nD) : (⟨k0_dev6 c, Gen.k0_dev6_lt c⟩ : Dev nD) = rot c 3 := by revert c; decide +kernel
theorem dev7_eq (c : Dev nD) : (⟨k0_dev7 c, Gen.k0_dev7_lt c⟩ : Dev nD) = rot c 1 := by revert c; decide +kernel
theorem dev8_eq (c : Dev nD) : (⟨k0_dev8 c, Gen.k0_dev8_lt c⟩ : Dev nD) = rot c 2 := by revert c; decide +kernel
theorem dev9_eq (c : Dev nD) : (⟨k0_dev9 c, Gen.k0_dev9_lt c⟩ : Dev nD) = rot c 3 := by revert c; decide +kernel

/-- The rows sent at a distance are the quarter of the peer at that distance. -/
theorem off1_eq (c : Dev nD) (r : Fin 3) :
    k0_off1 c (BitVec.ofNat 32 (1 + r.val)) = ![64 * ((c.val + (1 + r.val)) % 4), 0] := by
  revert c r; decide +kernel
/-- The rows assembled from a distance are the quarter of the peer at that distance. -/
theorem off4_eq (c : Dev nD) (r : Fin 3) :
    k0_off4 c (BitVec.ofNat 32 (1 + r.val)) = ![64 * ((c.val + (1 + r.val)) % 4), 0] := by
  revert c r; decide +kernel

/-! ## The buffers -/

abbrev xM : Memref sig .tc .hbm S256x512 .f32 := Memref.whole main_v1
abbrev wqM : Memref sig .tc .hbm S512x512 .f32 := Memref.whole main_arg1
abbrev woM : Memref sig .tc .hbm S512x512 .f32 := Memref.whole main_arg2
abbrev kM : Memref sig .tc .hbm S256x512 .f32 := Memref.whole main_v2
abbrev vM : Memref sig .tc .hbm S256x512 .f32 := Memref.whole main_v3
abbrev outM : Memref sig .tc .vmem S256x512 .f32 := Memref.whole cc0_stg0_0
abbrev xsM : Memref sig .tc .vmem S256x512 .f32 := Memref.whole cc0_scratch0
abbrev wqsM : Memref sig .tc .vmem S512x512 .f32 := Memref.whole cc0_scratch1
abbrev wosM : Memref sig .tc .vmem S512x512 .f32 := Memref.whole cc0_scratch2
abbrev ksM : Memref sig .tc .vmem S256x512 .f32 := Memref.whole cc0_scratch3
abbrev vsM : Memref sig .tc .vmem S256x512 .f32 := Memref.whole cc0_scratch4
abbrev locM : Memref sig .tc .vmem S256x640 .bf16 := Memref.whole cc0_scratch5
abbrev pM : Memref sig .tc .vmem S4x64x640 .bf16 := Memref.whole cc0_scratch6
abbrev osM : Memref sig .tc .vmem S64x512 .bf16 := Memref.whole cc0_scratch7
abbrev obM : Memref sig .tc .vmem S4x64x512 .bf16 := Memref.whole cc0_scratch8

/-! ## What the buffers hold -/

/-- The five arrays the region starts from, on every device. -/
structure Ins (F : FTy → Type) where
  x : Dev nD → Vec F S256x512 .f32
  wq : Dev nD → Vec F S512x512 .f32
  wo : Dev nD → Vec F S512x512 .f32
  k : Dev nD → Vec F S256x512 .f32
  v : Dev nD → Vec F S256x512 .f32

variable (I : Ins F)

abbrev w105 : BitVec 32 := Scalar.extui (Scalar.cmpi .sgt 128#32 0#32)
abbrev w107 : BitVec 32 := Scalar.extui (Scalar.cmpi .slt 128#32 0#32)
abbrev iota70 : IVec S256x256 32 := iota .tc S256x256 32 [1] iota_S256x256_d1_w32
abbrev zero64 : FVec F S256x64 .f32 := constant S256x64 .f32 0x00000000#32

/-- The scaled projected queries of a device. -/
def qV (c : Dev nD) : FVec F S256x512 .bf16 := k0_pay3 (k0_pay2 (I.x c) (I.wq c))
/-- The mask that keeps a query and a key of the same batch entry. -/
def maskV : FVec F S256x256 .f32 := k0_pay8 (F := F) iota70 k0_pay5 128#32 k0_pay6 k0_pay7 w105 w107
def kbV (c : Dev nD) : FVec F S256x512 .bf16 := k0_pay9 (I.k c)
def vbV (c : Dev nD) : FVec F S256x512 .bf16 := k0_pay10 (I.v c)

/-- A device's unnormalised outputs of the eight heads, side by side. -/
def locA (c : Dev nD) : FVec F S256x512 .bf16 :=
  k0_pay34 (qV I c) maskV (kbV I c) (vbV I c)
    (k0_pay13 (qV I c) iota70 k0_pay5 128#32 k0_pay6 k0_pay7 w105 w107 (I.k c) (I.v c))
    (k0_pay18 (k0_pay16 (qV I c) iota70 k0_pay5 128#32 k0_pay6 k0_pay7 w105 w107 (I.k c)) (k0_pay17 (I.v c)) zero64)
    (k0_pay21 (qV I c) maskV (kbV I c) (vbV I c)) (k0_pay24 (qV I c) maskV (kbV I c) (vbV I c))
    (k0_pay27 (qV I c) maskV (kbV I c) (vbV I c)) (k0_pay30 (qV I c) maskV (kbV I c)) (k0_pay31 (vbV I c)) zero64
/-- A device's eight denominators, a column each. -/
def locB (c : Dev nD) : FVec F S256x8 .bf16 :=
  k0_pay35 (qV I c) maskV (kbV I c)
    (k0_pay12 (qV I c) iota70 k0_pay5 128#32 k0_pay6 k0_pay7 w105 w107 (I.k c))
    (k0_pay15 (qV I c) iota70 k0_pay5 128#32 k0_pay6 k0_pay7 w105 w107 (I.k c))
    (k0_pay20 (qV I c) maskV (kbV I c)) (k0_pay23 (qV I c) maskV (kbV I c)) (k0_pay26 (qV I c) maskV (kbV I c))
    (k0_pay29 (qV I c) maskV (kbV I c))
/-- The packed partial result of a device: outputs, denominators, zeros. -/
def locV (c : Dev nD) : Vec F S256x640 .bf16 := fun i =>
  if h : (i 1).val < 512 then locA I c (ix2 (i 0) ⟨(i 1).val, h⟩)
  else if h' : (i 1).val < 520 then locB I c (ix2 (i 0) ⟨(i 1).val - 512, by omega⟩)
  else k0_pay4 (F := F) (ix2 (i 0) ⟨(i 1).val - 512, by have := (i 1).isLt; change (i 1).val < 640 at this; omega⟩)

/-- Row `r` of the quarter of device `c`. -/
def qrow (c : Dev nD) (r : Fin 64) : Fin 256 := ⟨64 * c.val + r.val, by have h1 : c.val < 4 := c.isLt; have h2 := r.isLt; omega⟩

/-- The own quarter of the own partial result. -/
def ownRows (c : Dev nD) : Vec F S64x640 .bf16 := fun i => locV I c (ix2 (qrow c (i 0)) (i 1))
/-- What the receive buffer of the first exchange holds once everything has landed: in slot `j` the own quarter of the
    partial result of the peer at distance `j`. -/
def pbufV (c : Dev nD) : Vec F S4x64x640 .bf16 := fun i => locV I (rot c (i 0)) (ix2 (qrow c (i 1)) (i 2))
/-- One slot of it. -/
def pslot (c : Dev nD) (j : Fin 4) : Vec F S1x64x640 .bf16 := fun i => pbufV I c (ix3 j (i 1) (i 2))

/-- The own quarter of the result, from the four partial results. -/
def outOwn (c : Dev nD) : FVec F S64x512 .f32 :=
  k0_pay42 (k0_pay36 (ownRows I c) (pslot I c 1) (pslot I c 2) (pslot I c 3))
    (k0_pay37 (ownRows I c) (pslot I c 1) (pslot I c 2) (pslot I c 3))
    (k0_pay38 (ownRows I c) (pslot I c 1) (pslot I c 2) (pslot I c 3))
    (k0_pay39 (ownRows I c) (pslot I c 1) (pslot I c 2) (pslot I c 3))
    (k0_pay40 (ownRows I c) (pslot I c 1) (pslot I c 2) (pslot I c 3))
    (k0_pay41 (ownRows I c) (pslot I c 1) (pslot I c 2) (pslot I c 3)) (I.wo c)
/-- The same, narrowed: what is sent to every peer. -/
def osendV (c : Dev nD) : FVec F S64x512 .bf16 :=
  k0_pay43 (k0_pay36 (ownRows I c) (pslot I c 1) (pslot I c 2) (pslot I c 3))
    (k0_pay37 (ownRows I c) (pslot I c 1) (pslot I c 2) (pslot I c 3))
    (k0_pay38 (ownRows I c) (pslot I c 1) (pslot I c 2) (pslot I c 3))
    (k0_pay39 (ownRows I c) (pslot I c 1) (pslot I c 2) (pslot I c 3))
    (k0_pay40 (ownRows I c) (pslot I c 1) (pslot I c 2) (pslot I c 3))
    (k0_pay41 (ownRows I c) (pslot I c 1) (pslot I c 2) (pslot I c 3)) (I.wo c)
/-- What the receive buffer of the second exchange holds once everything has landed. -/
def obufV (c : Dev nD) : Vec F S4x64x512 .bf16 := fun i => osendV I (rot c (i 0)) (ix2 (i 1) (i 2))
/-- One slot of it. -/
def oslot (c : Dev nD) (j : Fin 4) : Vec F S1x64x512 .bf16 := fun i => obufV I c (ix3 j (i 1) (i 2))

/-- How far the quarter `q` is from device `c`. -/
def dist (c : Dev nD) (q : Fin 4) : Fin 4 := ⟨(q.val + 4 - c.val) % 4, Nat.mod_lt _ (by decide)⟩
theorem dist_rot (c : Dev nD) (d : Fin 4) : dist c (rot c d) = d := by revert c d; decide
theorem rot_dist (c : Dev nD) (q : Fin 4) : rot c (dist c q) = q := by revert c q; decide

/-- The result of a device: its own quarter as computed, the others as they landed. -/
def outV (c : Dev nD) : Vec F S256x512 .f32 := fun i =>
  if (i 0).val / 64 = c.val then outOwn I c (ix2 ⟨(i 0).val % 64, Nat.mod_lt _ (by decide)⟩ (i 1))
  else k0_pay1 (oslot I c (dist c ⟨(i 0).val / 64, by have := (i 0).isLt; change (i 0).val < 256 at this; omega⟩))
    (ix2 ⟨(i 0).val % 64, Nat.mod_lt _ (by decide)⟩ (i 1))

/-! ## Pieces of buffers -/

/-- The quarter of the rows that belongs to device `q`. -/
def rowsQ (q : Dev nD) : Finset (S256x640.Idx) := Finset.univ.filter fun i => (i 0).val / 64 = q.val
/-- One slot of the first receive buffer. -/
def slotP (j : Fin 4) : Finset (S4x64x640.Idx) := Finset.univ.filter fun i => (i 0).val = j.val
/-- One slot of the second receive buffer. -/
def slotO (j : Fin 4) : Finset (S4x64x512.Idx) := Finset.univ.filter fun i => (i 0).val = j.val

/-! ## The resource algebra -/

abbrev UU : Type := UR sig nD τ × Rounds.URounds (GSem nD τ sig) (Fin 4)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Fin 4)) (MT nD τ sig Unit (Elt F) ℕ UU ℕ) := embR

/-! ## Cells -/

abbrev barCell (c : Dev nD) : GSem nD τ sig := ((c : Thread nD τ), .reg barrier0)
abbrev dcell (c : Dev nD) (n : Fin 20) : GSem nD τ sig := ((c : Thread nD τ), .dma (n : DmaSem sig))
/-- The send semaphores of the first exchange, by distance. -/
def s1 (d : Fin 4) : Fin 20 := ⟨5 + d.val, by omega⟩
/-- The receive semaphores of the first exchange, by slot. -/
def r1 (j : Fin 4) : Fin 20 := ⟨9 + j.val, by omega⟩
/-- The send semaphores of the second exchange, by distance. -/
def s2 (d : Fin 4) : Fin 20 := ⟨12 + d.val, by omega⟩
/-- The receive semaphores of the second exchange, by slot. -/
def r2 (j : Fin 4) : Fin 20 := ⟨16 + j.val, by omega⟩

/-- What one copy onto a semaphore credits. -/
def amt (n : ℕ) : ℕ :=
  if n = 2 ∨ n = 5 then (wqsM : Memref sig .tc .vmem S512x512 .f32).view.dmaCredit
  else if n < 5 then (xsM : Memref sig .tc .vmem S256x512 .f32).view.dmaCredit
  else if n < 13 then ((locM : Memref sig .tc .vmem S256x640 .bf16).slice (Rect.unit (s := S256x640) (k0_off1 0 1#32) S64x640.size (Gen.k0_off1_inb 0 0)) (fun _ => rfl)).view.dmaCredit
  else (osM : Memref sig .tc .vmem S64x512 .bf16).view.dmaCredit
theorem amt_pos (n : ℕ) : 0 < amt n := by
  unfold amt
  (repeat' split) <;> exact View.dmaCredit_pos _ (by decide)

/-! ## What a payment hands over -/

/-- A whole buffer of the core, at a share. -/
abbrev ptq (c : Dev nD) (b : Ref sig .tc) (q : PosShare TreeShare) (f : b.ty.Contents (Elt F)) : sProp 𝕄 :=
  ((c : Thread nD τ).loc b) ↦[Finset.univ]{q} f
/-- A whole buffer of the core. -/
abbrev pt (c : Dev nD) (b : Ref sig .tc) (f : b.ty.Contents (Elt F)) : sProp 𝕄 := ptq c b fullShare f
/-- Some elements of a buffer of the core. -/
abbrev ptS (c : Dev nD) (b : Ref sig .tc) (S : Finset (Idx ((c : Thread nD τ).loc b))) (f : b.ty.Contents (Elt F)) : sProp 𝕄 :=
  ((c : Thread nD τ).loc b) ↦[S]{fullShare} f

/-- The three shares at which the narrowed quarter is read by the three copies under way at once. -/
def shr (d : Fin 4) : PosShare TreeShare :=
  if d.val = 1 then fullShare.left else if d.val = 2 then fullShare.right.left else fullShare.right.right

/-- Paid to device `c`'s barrier by the peer at distance `j`: that peer's slots which `c` is to write, and that the
    semaphores these copies credit are in their first round. -/
def barPay (c : Dev nD) (j : Fin 4) : sProp 𝕄 :=
  iprop((∃ f, ptS (F := F) (rot c j) cc0_scratch6 (slotP (opp j)) f) ∗ (∃ f, ptS (F := F) (rot c j) cc0_scratch8 (slotO (opp j)) f)
    ∗ reached ER (dcell (rot c j) (r1 (opp j))) 0 ∗ reached ER (dcell (rot c j) (r2 (opp j))) 0)

/-- What a copy onto DMA semaphore `n` of device `c` hands over. -/
def dmaPay (c : Dev nD) (n : ℕ) : sProp 𝕄 :=
  if n = 1 then iprop(pt c cc0_scratch0 (I.x c) ∗ pt c main_v1 (I.x c))
  else if n = 2 then iprop(pt c cc0_scratch1 (I.wq c) ∗ pt c main_arg1 (I.wq c))
  else if n = 3 then iprop(pt c cc0_scratch3 (I.k c) ∗ pt c main_v2 (I.k c))
  else if n = 4 then iprop(pt c cc0_scratch4 (I.v c) ∗ pt c main_v3 (I.v c))
  else if n = 5 then iprop(pt c cc0_scratch2 (I.wo c) ∗ pt c main_arg2 (I.wo c))
  else if n < 9 then ptS c cc0_scratch5 (rowsQ (rot c ⟨(n - 5) % 4, Nat.mod_lt _ (by decide)⟩)) (locV I c)
  else if n < 13 then ptS c cc0_scratch6 (slotP ⟨(n - 9) % 4, Nat.mod_lt _ (by decide)⟩) (pbufV I c)
  else if n < 16 then ptq c cc0_scratch7 (shr ⟨(n - 12) % 4, Nat.mod_lt _ (by decide)⟩) (osendV I c)
  else ptS c cc0_scratch8 (slotO ⟨(n - 16) % 4, Nat.mod_lt _ (by decide)⟩) (obufV I c)

theorem dmaPay_s1 (c : Dev nD) (d : Fin 4) (hd : d ≠ 0) : dmaPay I c (s1 d).val = ptS c cc0_scratch5 (rowsQ (rot c d)) (locV I c) := by
  revert hd; revert d; rw [Fin.forall_fin_succ, Fin.forall_fin_succ, Fin.forall_fin_succ, Fin.forall_fin_succ]
  exact ⟨fun h => absurd rfl h, fun _ => rfl, fun _ => rfl, fun _ => rfl, fun j => j.elim0⟩
theorem dmaPay_r1 (c : Dev nD) (d : Fin 4) : dmaPay I c (r1 d).val = ptS c cc0_scratch6 (slotP d) (pbufV I c) := by
  revert d; rw [Fin.forall_fin_succ, Fin.forall_fin_succ, Fin.forall_fin_succ, Fin.forall_fin_succ]
  exact ⟨rfl, rfl, rfl, rfl, fun j => j.elim0⟩
theorem dmaPay_s2 (c : Dev nD) (d : Fin 4) (hd : d ≠ 0) : dmaPay I c (s2 d).val = ptq c cc0_scratch7 (shr d) (osendV I c) := by
  revert hd; revert d; rw [Fin.forall_fin_succ, Fin.forall_fin_succ, Fin.forall_fin_succ, Fin.forall_fin_succ]
  exact ⟨fun h => absurd rfl h, fun _ => rfl, fun _ => rfl, fun _ => rfl, fun j => j.elim0⟩
theorem dmaPay_r2 (c : Dev nD) (d : Fin 4) : dmaPay I c (r2 d).val = ptS c cc0_scratch8 (slotO d) (obufV I c) := by
  revert d; rw [Fin.forall_fin_succ, Fin.forall_fin_succ, Fin.forall_fin_succ, Fin.forall_fin_succ]
  exact ⟨rfl, rfl, rfl, rfl, fun j => j.elim0⟩

/-! ## The schedule -/

/-- The DMA semaphores a copy credits: all of the kernel's own but the two spare ones. -/
def used (n : ℕ) : Bool := n != 0 && n != 9 && n != 16

/-- One round everywhere: a barrier is paid one unit by each of the three peers; every DMA semaphore in use by one copy. -/
def rd : Rounds.Schedule (GSem nD τ sig) (Fin 4) 𝕄 where
  duties g r := if r = 0 ∧ g.1.2 = .tc then
      (match g.2 with
        | .reg _ => {1, 2, 3}
        | .dma n => if used n.val then {0} else ∅)
    else ∅
  unitless _ := False
  amount g _ _ := match g.2 with
    | .reg _ => 1
    | .dma n => amt n.val
  payload g _ d := match g.2 with
    | .reg _ => barPay g.1.1 d
    | .dma n => dmaPay I g.1.1 n.val
  amount_pos g _ _ _ := by
    rcases g with ⟨_, (_ | n)⟩
    · exact Nat.one_pos
    · exact amt_pos _

instance rd_payload_storable (g : GSem nD τ sig) (r : ℕ) (d : Fin 4) :
    BI.Storable (upEmb : UEmb _ 𝕄) ((rd (F := F) I).payload g r d) := by
  rcases g with ⟨⟨c, p⟩, (s | n)⟩
  · show BI.Storable upEmb (barPay c d)
    unfold barPay
    infer_instance
  · show BI.Storable upEmb (dmaPay I c n.val)
    unfold dmaPay
    (repeat' split) <;> infer_instance

section Sched
variable (c : Dev nD)

theorem duties_bar : (rd (F := F) I).duties (barCell c) 0 = {1, 2, 3} := rfl
theorem duties_dma (n : Fin 20) (h : used n.val = true) : (rd (F := F) I).duties (dcell c n) 0 = {0} := by
  dsimp only [rd]
  rw [if_pos ⟨rfl, rfl⟩, if_pos h]
theorem duties_spare (n : Fin 20) (h : used n.val = false) (r : ℕ) : (rd (F := F) I).duties (dcell c n) r = ∅ := by
  dsimp only [rd]
  rw [h]
  split <;> rfl
theorem duties_later (g : GSem nD τ sig) : ∀ r, 1 ≤ r → (rd (F := F) I).duties g r = ∅ :=
  fun r hr => if_neg (fun h => absurd h.1 (by omega))
theorem amount_bar (d : Fin 4) : (rd (F := F) I).amount (barCell c) 0 d = 1 := rfl
theorem amount_dma (n : Fin 20) (d : Fin 4) : (rd (F := F) I).amount (dcell c n) 0 d = amt n.val := rfl
theorem payload_bar (d : Fin 4) : (rd (F := F) I).payload (barCell c) 0 d = barPay c d := rfl
theorem payload_dma (n : Fin 20) (d : Fin 4) : (rd (F := F) I).payload (dcell c n) 0 d = dmaPay I c n.val := rfl
theorem expect_bar : (rd (F := F) I).expect (barCell c) 0 = 3 := by
  unfold Schedule.expect Schedule.amountOf; rw [duties_bar]; rfl
theorem expect_dma (n : Fin 20) (h : used n.val = true) : (rd (F := F) I).expect (dcell c n) 0 = amt n.val := by
  unfold Schedule.expect Schedule.amountOf; rw [duties_dma I c n h, Finset.sum_singleton, amount_dma]
/-- All that a barrier is paid. -/
theorem rest_bar : bigSep ((rd (F := F) I).duties (barCell c) 0 \ ∅) (fun u => (rd (F := F) I).payload (barCell c) 0 u)
    = iprop(barPay c 1 ∗ barPay c 2 ∗ barPay c 3) := by
  rw [Finset.sdiff_empty, duties_bar, bigSep_eq_bigSepL_of_eq [(1 : Fin 4), 2, 3] (by decide) (by decide)]
  rfl
theorem rest_dma (n : Fin 20) (h : used n.val = true) :
    bigSep ((rd (F := F) I).duties (dcell c n) 0 \ ∅) (fun u => (rd (F := F) I).payload (dcell c n) 0 u) = dmaPay I c n.val := by
  rw [Finset.sdiff_empty, duties_dma I c n h, bigSep_singleton, payload_dma]

end Sched

/-! ## What each core owes; the levels -/

/-- The credit of the copy of the first exchange to the peer at distance `d`. -/
def T1 (c : Dev nD) (d : Fin 4) : CellTallies nD τ sig Unit := tallyAt (dcell (rot c d) (r1 (opp d))) () (amt (r1 (opp d)).val)
/-- The credit of the copy of the second exchange to the peer at distance `d`. -/
def T2 (c : Dev nD) (d : Fin 4) : CellTallies nD τ sig Unit := tallyAt (dcell (rot c d) (r2 (opp d))) () (amt (r2 (opp d)).val)
/-- The unit to the barrier of the peer at distance `d`. -/
def TB (c : Dev nD) (d : Fin 4) : CellTallies nD τ sig Unit := tallyAt (barCell (rot c d)) () 1

def Osnd2 (c : Dev nD) : CellTallies nD τ sig Unit := 0 + T2 c 3 + T2 c 2 + T2 c 1
def Osnd1 (c : Dev nD) : CellTallies nD τ sig Unit := Osnd2 c + T1 c 3 + T1 c 2 + T1 c 1
/-- Everything a core owes at launch. -/
def O₀ (c : Dev nD) : CellTallies nD τ sig Unit := Osnd1 c + TB c 3 + TB c 2 + TB c 1

def L (g : GSem nD τ sig) : Finset Unit := if g.1.2 = .tc then {()} else ∅
/-- Barriers at 1, the first exchange's receive semaphores at 2, the second's at 3, the rest at 0. -/
def lv (g : GSem nD τ sig) (_ : Unit) : ℕ := match g.2 with
  | .reg _ => 1
  | .dma n => if 16 ≤ n.val then 3 else if 9 ≤ n.val ∧ n.val < 13 then 2 else 0

theorem L_of_ne (g : GSem nD τ sig) (h : g.1.2 ≠ .tc) : L g = ∅ := if_neg h
theorem L_tc (c : Dev nD) (sm : SemLoc sig) : L ((c : Thread nD τ), sm) = {()} := if_pos rfl

/-- Everything owed is on a TensorCore's semaphore above the level. -/
def Above (k : ℕ) (O : CellTallies nD τ sig Unit) : Prop := ∀ g u, 0 < O g u → g.1.2 = .tc ∧ k < lv g u

theorem above_zero (k : ℕ) : Above k 0 := fun g u h => absurd h (Nat.lt_irrefl 0)
theorem Above.add {k : ℕ} {A B : CellTallies nD τ sig Unit} (hA : Above k A) (hB : Above k B) : Above k (A + B) := fun g u h => by
  have h' : 0 < A g u + B g u := h
  rcases Nat.eq_zero_or_pos (A g u) with h0 | h0
  · exact hB g u (by omega)
  · exact hA g u h0
theorem above_tally {k : ℕ} (c : Dev nD) (sm : SemLoc sig) (n : ℕ) (h : k < lv ((c : Thread nD τ), sm) ()) :
    Above k (tallyAt ((c : Thread nD τ), sm) () n) := fun g u hg => by
  rw [tallyAt_apply] at hg
  by_cases h' : g = ((c : Thread nD τ), sm) ∧ u = ()
  · rw [h'.1]; exact ⟨rfl, h⟩
  · rw [if_neg h'] at hg; exact absurd hg (Nat.lt_irrefl 0)
theorem above_T2 (c : Dev nD) (d : Fin 4) : Above 2 (T2 c d) :=
  above_tally _ _ _ (by revert c d; decide)
theorem above_T1 (c : Dev nD) (d : Fin 4) : Above 1 (T1 c d) :=
  above_tally _ _ _ (by revert c d; decide)
theorem Above.mono {k k' : ℕ} {O : CellTallies nD τ sig Unit} (h : Above k O) (hk : k' ≤ k) : Above k' O :=
  fun g u hg => ⟨(h g u hg).1, lt_of_le_of_lt hk (h g u hg).2⟩
theorem above_Osnd2 (c : Dev nD) : Above 2 (Osnd2 c) :=
  (((above_zero 2).add (above_T2 c 3)).add (above_T2 c 2)).add (above_T2 c 1)
theorem above_Osnd1 (c : Dev nD) : Above 1 (Osnd1 c) :=
  ((((above_Osnd2 c).mono (by decide)).add (above_T1 c 3)).add (above_T1 c 2)).add (above_T1 c 1)

/-- A core may wait on a semaphore whose level everything it owes is above. -/
theorem mayWait (c : Dev nD) (sm : SemLoc sig) (k : ℕ) (hk : lv ((c : Thread nD τ), sm) () ≤ k) {O : CellTallies nD τ sig Unit} (hO : Above k O) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by
      unfold L; rw [if_pos (hO g u hg).1]; exact Finset.mem_singleton_self _)
    (fun p hp => by rw [Finset.mem_singleton.mp hp]; exact hk)
    (fun g u hg => (hO g u hg).2)

end Cert.KernelIdeal.Attn

end
-- ==== Proof.Views.lean ====
/-
  The pieces of buffers that the kernel reads, writes and sends: which elements each view is on, and what is in the buffers
  after the writes.
-/
module

public import proofs.«01_k».proof.Proof.Common
public import Idealize.ShloMosaic.Lib.ValueLayout

@[expose] public section

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F] (I : Ins F)

/-! ## Where the elements of a piece sit -/

/-- A rectangle of 64 rows at a multiple of 64 sits on a quarter, row by row. -/
theorem emb_rows {n : ℕ} (q : Dev nD) {o : Fin 2 → ℕ} (inb : ∀ a, o a + (⟨2, ![64, n]⟩ : Shape).size a ≤ (⟨2, ![256, n]⟩ : Shape).size a)
    (ho : o = ![64 * q.val, 0]) (r : Fin 64) (j : Fin n) :
    (Rect.unit (s := ⟨2, ![256, n]⟩) o (⟨2, ![64, n]⟩ : Shape).size inb).emb (ix2 r j) = ix2 (qrow q r) j := by
  subst ho
  funext a
  apply Fin.ext
  match a with
  | ⟨0, _⟩ => show 64 * q.val + 1 * r.val = 64 * q.val + r.val; omega
  | ⟨1, _⟩ => show 0 + 1 * j.val = j.val; omega

/-- Its elements are those of the quarter. -/
theorem mem_rows {n : ℕ} (q : Dev nD) {o : Fin 2 → ℕ} (inb : ∀ a, o a + (⟨2, ![64, n]⟩ : Shape).size a ≤ (⟨2, ![256, n]⟩ : Shape).size a)
    (ho : o = ![64 * q.val, 0]) (i : (⟨2, ![256, n]⟩ : Shape).Idx) :
    i ∈ (Rect.unit (s := ⟨2, ![256, n]⟩) o (⟨2, ![64, n]⟩ : Shape).size inb).set ↔ (i 0).val / 64 = q.val := by
  subst ho
  rw [Rect.mem_set_unit, Fin.forall_fin_two]
  have h1 := idx2_lt1 i
  show (64 * q.val ≤ (i 0).val ∧ (i 0).val < 64 * q.val + 64) ∧ (0 ≤ (i 1).val ∧ (i 1).val < 0 + n) ↔ _
  omega

/-- One slot of a buffer of slots sits at its number. -/
theorem emb_slot {m n p : ℕ} (j : Fin m) {o : Fin 3 → ℕ} (inb : ∀ a, o a + (⟨3, ![1, n, p]⟩ : Shape).size a ≤ (⟨3, ![m, n, p]⟩ : Shape).size a)
    (ho : o = ![j.val, 0, 0]) (z : Fin 1) (r : Fin n) (k : Fin p) :
    (Rect.unit (s := ⟨3, ![m, n, p]⟩) o (⟨3, ![1, n, p]⟩ : Shape).size inb).emb (ix3 z r k) = ix3 j r k := by
  subst ho
  funext a
  apply Fin.ext
  match a with
  | ⟨0, _⟩ => show j.val + 1 * z.val = j.val; omega
  | ⟨1, _⟩ => show 0 + 1 * r.val = r.val; omega
  | ⟨2, _⟩ => show 0 + 1 * k.val = k.val; omega

/-- Its elements are those whose slot is its number. -/
theorem mem_slot {m n p : ℕ} (j : Fin m) {o : Fin 3 → ℕ} (inb : ∀ a, o a + (⟨3, ![1, n, p]⟩ : Shape).size a ≤ (⟨3, ![m, n, p]⟩ : Shape).size a)
    (ho : o = ![j.val, 0, 0]) (i : (⟨3, ![m, n, p]⟩ : Shape).Idx) :
    i ∈ (Rect.unit (s := ⟨3, ![m, n, p]⟩) o (⟨3, ![1, n, p]⟩ : Shape).size inb).set ↔ (i 0).val = j.val := by
  subst ho
  rw [Rect.mem_set_unit]
  have h1 : (i 1).val < n := (i 1).isLt
  have h2 : (i 2).val < p := (i 2).isLt
  constructor
  · intro h
    have h0 := h 0
    change j.val ≤ (i 0).val ∧ (i 0).val < j.val + 1 at h0
    omega
  · intro h a
    match a with
    | ⟨0, _⟩ => show j.val ≤ (i 0).val ∧ (i 0).val < j.val + 1; omega
    | ⟨1, _⟩ => show 0 ≤ (i 1).val ∧ (i 1).val < 0 + n; omega
    | ⟨2, _⟩ => show 0 ≤ (i 2).val ∧ (i 2).val < 0 + p; omega

/-! ## Quarters and slots cover their buffers -/

/-- The own quarter and the three peers' make up the partial result. -/
theorem rows_univ (c : Dev nD) : (Finset.univ : Finset (Fin 4)).biUnion (fun d => rowsQ (rot c d)) = Finset.univ := by
  ext i
  simp only [Finset.mem_biUnion, Finset.mem_univ, true_and, iff_true]
  have h0 : (i 0).val < 256 := (i 0).isLt
  refine ⟨dist c ⟨(i 0).val / 64, by omega⟩, ?_⟩
  rw [rot_dist]
  simp [rowsQ]
theorem rows_disj (c : Dev nD) : ∀ d ∈ (Finset.univ : Finset (Fin 4)), ∀ e ∈ (Finset.univ : Finset (Fin 4)), d ≠ e → Disjoint (rowsQ (rot c d)) (rowsQ (rot c e)) := by
  intro d _ e _ h
  rw [Finset.disjoint_left]
  intro i hi hi'
  simp only [rowsQ, Finset.mem_filter, Finset.mem_univ, true_and] at hi hi'
  have hde : rot c d = rot c e := Fin.ext (hi.symm.trans hi')
  exact h (by rw [← dist_rot c d, ← dist_rot c e, hde])
/-- The four slots make up the first receive buffer. -/
theorem slotP_univ : (Finset.univ : Finset (Fin 4)).biUnion slotP = Finset.univ := by
  ext i
  simp only [Finset.mem_biUnion, Finset.mem_univ, true_and, iff_true]
  exact ⟨i 0, by simp [slotP]⟩
theorem slotP_disj : ∀ d ∈ (Finset.univ : Finset (Fin 4)), ∀ e ∈ (Finset.univ : Finset (Fin 4)), d ≠ e → Disjoint (slotP d) (slotP e) := by
  intro d _ e _ h
  rw [Finset.disjoint_left]
  intro i hi hi'
  simp only [slotP, Finset.mem_filter, Finset.mem_univ, true_and] at hi hi'
  exact h (Fin.ext (hi.symm.trans hi'))
/-- The four slots make up the second receive buffer. -/
theorem slotO_univ : (Finset.univ : Finset (Fin 4)).biUnion slotO = Finset.univ := by
  ext i
  simp only [Finset.mem_biUnion, Finset.mem_univ, true_and, iff_true]
  exact ⟨i 0, by simp [slotO]⟩
theorem slotO_disj : ∀ d ∈ (Finset.univ : Finset (Fin 4)), ∀ e ∈ (Finset.univ : Finset (Fin 4)), d ≠ e → Disjoint (slotO d) (slotO e) := by
  intro d _ e _ h
  rw [Finset.disjoint_left]
  intro i hi hi'
  simp only [slotO, Finset.mem_filter, Finset.mem_univ, true_and] at hi hi'
  exact h (Fin.ext (hi.symm.trans hi'))

/-! ## The views the copies go through -/

/-- Sixty-four rows of the partial result, as the copies slice them. -/
abbrev locSl (o : Fin 2 → ℕ) (inb : ∀ a, o a + S64x640.size a ≤ S256x640.size a) : Memref sig .tc .vmem S64x640 .bf16 :=
  locM.slice (Rect.unit (s := S256x640) o S64x640.size inb) (fun _ => rfl)
/-- A slot of the first receive buffer, as the copies slice it. -/
abbrev pSl (o : Fin 3 → ℕ) (inb : ∀ a, o a + S1x64x640.size a ≤ S4x64x640.size a) : Memref sig .tc .vmem S64x640 .bf16 :=
  (pM.slice (Rect.unit (s := S4x64x640) o S1x64x640.size inb) (fun _ => rfl)).squeeze S64x640 squeezes_S1x64x640_S64x640
/-- A slot of the second receive buffer, as the copies slice it. -/
abbrev oSl (o : Fin 3 → ℕ) (inb : ∀ a, o a + S1x64x512.size a ≤ S4x64x512.size a) : Memref sig .tc .vmem S64x512 .bf16 :=
  (obM.slice (Rect.unit (s := S4x64x512) o S1x64x512.size inb) (fun _ => rfl)).squeeze S64x512 squeezes_S1x64x512_S64x512

theorem locSl_set (q : Dev nD) {o : Fin 2 → ℕ} (inb : ∀ a, o a + S64x640.size a ≤ S256x640.size a) (ho : o = ![64 * q.val, 0]) :
    (locSl o inb).view.set = rowsQ q := by
  show ((View.whole cc0_scratch5).slice (Rect.unit (s := S256x640) o S64x640.size inb)).set = rowsQ q
  rw [View.set_slice_whole]
  ext i
  rw [show i ∈ (Rect.unit (s := S256x640) o S64x640.size inb).set ↔ _ from mem_rows q inb ho i]
  simp [rowsQ]
theorem pSl_set (j : Fin 4) {o : Fin 3 → ℕ} (inb : ∀ a, o a + S1x64x640.size a ≤ S4x64x640.size a) (ho : o = ![j.val, 0, 0]) :
    (pSl o inb).view.set = slotP j := by
  show (((View.whole cc0_scratch6).slice (Rect.unit (s := S4x64x640) o S1x64x640.size inb)).reshape S64x640 squeezes_S1x64x640_S64x640.numel_eq).set = slotP j
  rw [View.set_reshape, View.set_slice_whole]
  ext i
  rw [show i ∈ (Rect.unit (s := S4x64x640) o S1x64x640.size inb).set ↔ _ from mem_slot j inb ho i]
  simp [slotP]
theorem oSl_set (j : Fin 4) {o : Fin 3 → ℕ} (inb : ∀ a, o a + S1x64x512.size a ≤ S4x64x512.size a) (ho : o = ![j.val, 0, 0]) :
    (oSl o inb).view.set = slotO j := by
  show (((View.whole cc0_scratch8).slice (Rect.unit (s := S4x64x512) o S1x64x512.size inb)).reshape S64x512 squeezes_S1x64x512_S64x512.numel_eq).set = slotO j
  rw [View.set_reshape, View.set_slice_whole]
  ext i
  rw [show i ∈ (Rect.unit (s := S4x64x512) o S1x64x512.size inb).set ↔ _ from mem_slot j inb ho i]
  simp [slotO]

/-- What a copy of the first exchange leaves in the slot it lands in. -/
theorem land1 (c : Dev nD) (d : Fin 4) {o : Fin 2 → ℕ} (inb : ∀ a, o a + S64x640.size a ≤ S256x640.size a) (ho : o = ![64 * (rot c d).val, 0])
    {o' : Fin 3 → ℕ} (inb' : ∀ a, o' a + S1x64x640.size a ≤ S4x64x640.size a) (ho' : o' = ![(opp d).val, 0, 0])
    (fd : (cc0_scratch6 : Ref sig .tc).ty.Contents (Elt F)) :
    ∀ i ∈ slotP (opp d), (pSl o' inb').view.write (Elt F) fd ((locSl o inb).view.read (Elt F) (locV I c)) Finset.univ i = pbufV I (rot c d) i := by
  intro i hi
  rw [← pSl_set (opp d) inb' ho'] at hi
  obtain ⟨y, -, rfl⟩ := Finset.mem_map.mp hi
  rw [View.write_emb_of_mem _ _ (Finset.mem_univ y)]
  obtain ⟨r, k, rfl⟩ : ∃ (r : Fin 64) (k : Fin 640), y = ix2 r k := ⟨y 0, y 1, eq_ix2 y⟩
  have e1 : (locSl o inb).view.emb (ix2 r k) = ix2 (qrow (rot c d) r) k := emb_rows (rot c d) inb ho r k
  have e2 : (pSl o' inb').view.emb (ix2 r k) = ix3 (opp d) r k := by
    show (Rect.unit (s := S4x64x640) o' S1x64x640.size inb').emb (Shape.reshapeEquiv _ (ix2 r k)) = _
    rw [reshapeEquiv_ix2_1ab]
    exact emb_slot (opp d) inb' ho' 0 r k
  rw [e2]
  show locV I c ((locSl o inb).view.emb (ix2 r k)) = locV I (rot (rot c d) (opp d)) (ix2 (qrow (rot c d) r) k)
  rw [e1, rot_opp]

/-- What a copy of the second exchange leaves in the slot it lands in. -/
theorem land2 (c : Dev nD) (d : Fin 4) {o' : Fin 3 → ℕ} (inb' : ∀ a, o' a + S1x64x512.size a ≤ S4x64x512.size a) (ho' : o' = ![(opp d).val, 0, 0])
    (fd : (cc0_scratch8 : Ref sig .tc).ty.Contents (Elt F)) :
    ∀ i ∈ slotO (opp d), (oSl o' inb').view.write (Elt F) fd (osM.view.read (Elt F) (osendV I c)) Finset.univ i = obufV I (rot c d) i := by
  intro i hi
  rw [← oSl_set (opp d) inb' ho'] at hi
  obtain ⟨y, -, rfl⟩ := Finset.mem_map.mp hi
  rw [View.write_emb_of_mem _ _ (Finset.mem_univ y)]
  obtain ⟨r, k, rfl⟩ : ∃ (r : Fin 64) (k : Fin 512), y = ix2 r k := ⟨y 0, y 1, eq_ix2 y⟩
  have e2 : (oSl o' inb').view.emb (ix2 r k) = ix3 (opp d) r k := by
    show (Rect.unit (s := S4x64x512) o' S1x64x512.size inb').emb (Shape.reshapeEquiv _ (ix2 r k)) = _
    rw [reshapeEquiv_ix2_1ab]
    exact emb_slot (opp d) inb' ho' 0 r k
  rw [e2]
  show osendV I c (ix2 r k) = osendV I (rot (rot c d) (opp d)) (ix2 r k)
  rw [rot_opp]

/-! ## What the reads see -/

/-- The own quarter of the partial result. -/
theorem read_own (c : Dev nD) {o : Fin 2 → ℕ} (inb : ∀ a, o a + S64x640.size a ≤ S256x640.size a) (ho : o = ![64 * c.val, 0]) :
    (locM.access (Rect.unit (s := S256x640) o S64x640.size inb)).read (Elt F) (locV I c) = ownRows I c := by
  funext y
  obtain ⟨r, k, rfl⟩ : ∃ (r : Fin 64) (k : Fin 640), y = ix2 r k := ⟨y 0, y 1, eq_ix2 y⟩
  show locV I c ((Rect.unit (s := S256x640) o S64x640.size inb).emb (ix2 r k)) = locV I c (ix2 (qrow c r) k)
  rw [show (Rect.unit (s := S256x640) o S64x640.size inb).emb (ix2 r k) = _ from emb_rows c inb ho r k]
/-- A slot of the first receive buffer. -/
theorem read_pslot (c : Dev nD) (j : Fin 4) {o : Fin 3 → ℕ} (inb : ∀ a, o a + S1x64x640.size a ≤ S4x64x640.size a) (ho : o = ![j.val, 0, 0]) :
    (pM.access (Rect.unit (s := S4x64x640) o S1x64x640.size inb)).read (Elt F) (pbufV I c) = pslot I c j := by
  funext y
  obtain ⟨z, r, k, rfl⟩ : ∃ (z : Fin 1) (r : Fin 64) (k : Fin 640), y = ix3 z r k := ⟨y 0, y 1, y 2, eq_ix3 y⟩
  show pbufV I c ((Rect.unit (s := S4x64x640) o S1x64x640.size inb).emb (ix3 z r k)) = pbufV I c (ix3 j r k)
  rw [show (Rect.unit (s := S4x64x640) o S1x64x640.size inb).emb (ix3 z r k) = _ from emb_slot j inb ho z r k]
/-- A slot of the second receive buffer. -/
theorem read_oslot (c : Dev nD) (j : Fin 4) {o : Fin 3 → ℕ} (inb : ∀ a, o a + S1x64x512.size a ≤ S4x64x512.size a) (ho : o = ![j.val, 0, 0]) :
    (obM.access (Rect.unit (s := S4x64x512) o S1x64x512.size inb)).read (Elt F) (obufV I c) = oslot I c j := by
  funext y
  obtain ⟨z, r, k, rfl⟩ : ∃ (z : Fin 1) (r : Fin 64) (k : Fin 512), y = ix3 z r k := ⟨y 0, y 1, y 2, eq_ix3 y⟩
  show obufV I c ((Rect.unit (s := S4x64x512) o S1x64x512.size inb).emb (ix3 z r k)) = obufV I c (ix3 j r k)
  rw [show (Rect.unit (s := S4x64x512) o S1x64x512.size inb).emb (ix3 z r k) = _ from emb_slot j inb ho z r k]

/-- The elements those reads touch. -/
theorem own_set (c : Dev nD) {o : Fin 2 → ℕ} (inb : ∀ a, o a + S64x640.size a ≤ S256x640.size a) (ho : o = ![64 * c.val, 0]) :
    (locM.access (Rect.unit (s := S256x640) o S64x640.size inb)).set ⊆ rowsQ c := (locSl_set c inb ho).subset
theorem pslot_set (j : Fin 4) {o : Fin 3 → ℕ} (inb : ∀ a, o a + S1x64x640.size a ≤ S4x64x640.size a) (ho : o = ![j.val, 0, 0]) :
    (pM.access (Rect.unit (s := S4x64x640) o S1x64x640.size inb)).set ⊆ slotP j := by
  rw [← pSl_set j inb ho]
  exact (View.set_reshape _ _).symm.subset
theorem oslot_set (j : Fin 4) {o : Fin 3 → ℕ} (inb : ∀ a, o a + S1x64x512.size a ≤ S4x64x512.size a) (ho : o = ![j.val, 0, 0]) :
    (obM.access (Rect.unit (s := S4x64x512) o S1x64x512.size inb)).set ⊆ slotO j := by
  rw [← oSl_set j inb ho]
  exact (View.set_reshape _ _).symm.subset

/-! ## What the stores leave -/

/-- A store through a rectangle puts its value where the rectangle is … -/
theorem store_on {Val : EltTy → Type} (b : Ref sig .tc) (r : Rect b.ty.shape) (f : b.ty.Contents Val) (w : r.shape.Idx → Val b.ty.elt)
    (y : r.shape.Idx) {i : b.ty.shape.Idx} (hi : i = r.emb y) :
    ((Memref.whole b : Memref sig .tc _ _ _).access r).write Val f w Finset.univ i = w y := by
  subst hi
  exact View.write_emb_of_mem (v := (View.whole b).slice r) f w (Finset.mem_univ y)
/-- … and nothing elsewhere. -/
theorem store_off {Val : EltTy → Type} (b : Ref sig .tc) (r : Rect b.ty.shape) (f : b.ty.Contents Val) (w : r.shape.Idx → Val b.ty.elt)
    {i : b.ty.shape.Idx} (hi : i ∉ r.set) :
    ((Memref.whole b : Memref sig .tc _ _ _).access r).write Val f w Finset.univ i = f i := by
  refine View.write_of_not_mem (v := (View.whole b).slice r) f w Finset.univ ?_
  rw [View.setOn_univ, View.set_slice_whole]; exact hi

/-- A store into columns of the partial result, read at an element. -/
theorem loc_store {n : ℕ} (k0 : ℕ) (inb : ∀ a, (![0, k0] : Fin 2 → ℕ) a + (⟨2, ![256, n]⟩ : Shape).size a ≤ S256x640.size a)
    (f : (cc0_scratch5 : Ref sig .tc).ty.Contents (Elt F)) (w : Vec F ⟨2, ![256, n]⟩ .bf16) (r : Fin 256) (k : Fin 640) :
    (locM.access (Rect.unit (s := S256x640) ![0, k0] (⟨2, ![256, n]⟩ : Shape).size inb)).write (Elt F) f w Finset.univ (ix2 r k)
      = if h : k0 ≤ k.val ∧ k.val < k0 + n then w (ix2 r ⟨k.val - k0, by omega⟩) else f (ix2 r k) := by
  split
  · next h =>
    refine store_on (Val := Elt F) cc0_scratch5 (Rect.unit (s := S256x640) ![0, k0] (⟨2, ![256, n]⟩ : Shape).size inb) f w (ix2 r ⟨k.val - k0, by omega⟩) ?_
    funext a; apply Fin.ext
    match a with
    | ⟨0, _⟩ => show r.val = 0 + 1 * r.val; omega
    | ⟨1, _⟩ => show k.val = k0 + 1 * (k.val - k0); omega
  · next h =>
    refine store_off (Val := Elt F) cc0_scratch5 (Rect.unit (s := S256x640) ![0, k0] (⟨2, ![256, n]⟩ : Shape).size inb) f w ?_
    intro hh
    have h1 := Rect.mem_set_unit.mp hh (1 : Fin 2)
    change k0 ≤ k.val ∧ k.val < k0 + n at h1
    exact h h1

/-- After the three stores into it the partial result is the packed one, whatever was there. -/
theorem loc_stores (c : Dev nD) (f : (cc0_scratch5 : Ref sig .tc).ty.Contents (Elt F))
    (inbC : ∀ a, (![0, 512] : Fin 2 → ℕ) a + S256x128.size a ≤ S256x640.size a) (inbA : ∀ a, (![0, 0] : Fin 2 → ℕ) a + S256x512.size a ≤ S256x640.size a)
    (inbB : ∀ a, (![0, 512] : Fin 2 → ℕ) a + S256x8.size a ≤ S256x640.size a) :
    (locM.access (Rect.unit (s := S256x640) ![0, 512] S256x8.size inbB)).write (Elt F)
      ((locM.access (Rect.unit (s := S256x640) ![0, 0] S256x512.size inbA)).write (Elt F)
        ((locM.access (Rect.unit (s := S256x640) ![0, 512] S256x128.size inbC)).write (Elt F) f k0_pay4 Finset.univ)
        (locA I c) Finset.univ)
      (locB I c) Finset.univ = locV I c := by
  funext i
  obtain ⟨r, k, rfl⟩ : ∃ (r : Fin 256) (k : Fin 640), i = ix2 r k := ⟨i 0, i 1, eq_ix2 i⟩
  have hk := k.isLt
  rw [loc_store (n := 8) 512 inbB, loc_store (n := 512) 0 inbA, loc_store (n := 128) 512 inbC]
  have e : locV I c (ix2 r k) = if h : k.val < 512 then locA I c (ix2 r ⟨k.val, h⟩)
      else if h' : k.val < 520 then locB I c (ix2 r ⟨k.val - 512, by omega⟩)
      else k0_pay4 (F := F) (ix2 r ⟨k.val - 512, by omega⟩) := rfl
  rw [e]
  by_cases h : k.val < 512
  · rw [dif_neg (by omega), dif_pos (by omega), dif_pos h]
    rfl
  · by_cases h' : k.val < 520
    · rw [dif_pos (by omega), dif_neg h, dif_pos h']
    · rw [dif_neg (by omega), dif_neg (by omega), dif_pos (by omega), dif_neg h, dif_neg h']

/-- One of the four stores into the result, as a function of the rows. -/
theorem out_store_on (q : Dev nD) {o : Fin 2 → ℕ} (inb : ∀ a, o a + S64x512.size a ≤ S256x512.size a) (ho : o = ![64 * q.val, 0])
    (f : (cc0_stg0_0 : Ref sig .tc).ty.Contents (Elt F)) (w : Vec F S64x512 .f32) (r : Fin 256) (k : Fin 512) (h : r.val / 64 = q.val) :
    (outM.access (Rect.unit (s := S256x512) o S64x512.size inb)).write (Elt F) f w Finset.univ (ix2 r k)
      = w (ix2 ⟨r.val % 64, Nat.mod_lt _ (by decide)⟩ k) := by
  refine store_on (Val := Elt F) cc0_stg0_0 (Rect.unit (s := S256x512) o S64x512.size inb) f w (ix2 ⟨r.val % 64, Nat.mod_lt _ (by decide)⟩ k) ?_
  refine Eq.trans ?_ (emb_rows q inb ho _ k).symm
  have : r = qrow q ⟨r.val % 64, Nat.mod_lt _ (by decide)⟩ := Fin.ext (show r.val = 64 * q.val + r.val % 64 by omega)
  rw [← this]
theorem out_store_off (q : Dev nD) {o : Fin 2 → ℕ} (inb : ∀ a, o a + S64x512.size a ≤ S256x512.size a) (ho : o = ![64 * q.val, 0])
    (f : (cc0_stg0_0 : Ref sig .tc).ty.Contents (Elt F)) (w : Vec F S64x512 .f32) (r : Fin 256) (k : Fin 512) (h : r.val / 64 ≠ q.val) :
    (outM.access (Rect.unit (s := S256x512) o S64x512.size inb)).write (Elt F) f w Finset.univ (ix2 r k) = f (ix2 r k) := by
  refine store_off (Val := Elt F) cc0_stg0_0 (Rect.unit (s := S256x512) o S64x512.size inb) f w ?_
  rw [show ix2 r k ∈ (Rect.unit (s := S256x512) o S64x512.size inb).set ↔ _ from mem_rows q inb ho _]
  exact h

/-- After the four stores into it the result is the assembled one, whatever was there. -/
theorem out_stores (c : Dev nD) {o0 o1 o2 o3 : Fin 2 → ℕ}
    (inb0 : ∀ a, o0 a + S64x512.size a ≤ S256x512.size a) (h0 : o0 = ![64 * c.val, 0])
    (inb1 : ∀ a, o1 a + S64x512.size a ≤ S256x512.size a) (h1 : o1 = ![64 * (rot c 1).val, 0])
    (inb2 : ∀ a, o2 a + S64x512.size a ≤ S256x512.size a) (h2 : o2 = ![64 * (rot c 2).val, 0])
    (inb3 : ∀ a, o3 a + S64x512.size a ≤ S256x512.size a) (h3 : o3 = ![64 * (rot c 3).val, 0])
    (f : (cc0_stg0_0 : Ref sig .tc).ty.Contents (Elt F)) :
    (outM.access (Rect.unit (s := S256x512) o3 S64x512.size inb3)).write (Elt F)
      ((outM.access (Rect.unit (s := S256x512) o2 S64x512.size inb2)).write (Elt F)
        ((outM.access (Rect.unit (s := S256x512) o1 S64x512.size inb1)).write (Elt F)
          ((outM.access (Rect.unit (s := S256x512) o0 S64x512.size inb0)).write (Elt F) f (outOwn I c) Finset.univ)
          (k0_pay44 (oslot I c 1)) Finset.univ)
        (k0_pay45 (oslot I c 2)) Finset.univ)
      (k0_pay1 (oslot I c 3)) Finset.univ = outV I c := by
  funext i
  obtain ⟨r, k, rfl⟩ : ∃ (r : Fin 256) (k : Fin 512), i = ix2 r k := ⟨i 0, i 1, eq_ix2 i⟩
  have hne : ∀ (d e : Fin 4), d ≠ e → (rot c d).val ≠ (rot c e).val := by
    intro d e h h'; exact h (by rw [← dist_rot c d, ← dist_rot c e, Fin.ext h'])
  have hrc : (rot c 0).val = c.val := by rw [rot_zero]
  have hq : r.val / 64 < 4 := by have := r.isLt; omega
  have key : ∀ d : Fin 4, r.val / 64 = (rot c d).val → d ≠ 0 →
      outV I c (ix2 r k) = k0_pay1 (oslot I c d) (ix2 ⟨r.val % 64, Nat.mod_lt _ (by decide)⟩ k) := by
    intro d hd hd0
    have hn : ¬ (r.val / 64 = c.val) := by rw [hd, ← hrc]; exact hne d 0 hd0
    refine (if_neg hn).trans ?_
    have e : dist c ⟨r.val / 64, hq⟩ = d := by
      rw [show (⟨r.val / 64, hq⟩ : Fin 4) = rot c d from Fin.ext hd, dist_rot]
    show k0_pay1 (oslot I c (dist c ⟨r.val / 64, _⟩)) _ = _
    rw [e]
  have hd : r.val / 64 = (rot c (dist c ⟨r.val / 64, hq⟩)).val := by rw [rot_dist]
  generalize dist c ⟨r.val / 64, hq⟩ = d at hd
  have hcases : d = 0 ∨ d = 1 ∨ d = 2 ∨ d = 3 := (by decide : ∀ d : Fin 4, d = 0 ∨ d = 1 ∨ d = 2 ∨ d = 3) d
  rcases hcases with rfl | rfl | rfl | rfl
  · rw [out_store_off _ inb3 h3 _ _ _ _ (by rw [hd]; exact hne 0 3 (by decide)), out_store_off _ inb2 h2 _ _ _ _ (by rw [hd]; exact hne 0 2 (by decide)),
      out_store_off _ inb1 h1 _ _ _ _ (by rw [hd]; exact hne 0 1 (by decide)), out_store_on _ inb0 h0 _ _ _ _ (by rw [hd, hrc])]
    exact (if_pos (by show r.val / 64 = c.val; rw [hd, hrc])).symm
  · rw [out_store_off _ inb3 h3 _ _ _ _ (by rw [hd]; exact hne 1 3 (by decide)), out_store_off _ inb2 h2 _ _ _ _ (by rw [hd]; exact hne 1 2 (by decide)),
      out_store_on _ inb1 h1 _ _ _ _ hd]
    exact (key 1 hd (by decide)).symm
  · rw [out_store_off _ inb3 h3 _ _ _ _ (by rw [hd]; exact hne 2 3 (by decide)), out_store_on _ inb2 h2 _ _ _ _ hd]
    exact (key 2 hd (by decide)).symm
  · rw [out_store_on _ inb3 h3 _ _ _ _ hd]
    exact (key 3 hd (by decide)).symm

end Cert.KernelIdeal.Attn

end
-- ==== Proof.Steps.lean ====
/-
  One step of the kernel at a time, at the ring's schedule: a copy onto an own semaphore, a signal to a peer's barrier, a
  copy of either exchange, the wait on the barrier and the wait on a DMA semaphore. With the records of the launch that
  every step consults.
-/
module

public import proofs.«01_k».proof.Proof.Views

@[expose] public section

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] (I : Ins F)

local notation "𝕄" => MT nD τ sig Unit (Elt F) ℕ UU ℕ

abbrev 𝒱₀ : Variants := Variants.none

/-! ## The cells of the launch and its records -/

/-- The kernel's own DMA semaphores, one after the other. -/
def osem : Fin 19 → SemLoc sig := fun k => .dma (⟨k.val + 1, by have := k.isLt; omega⟩ : Fin 20)
theorem osem_inj : Function.Injective osem := by decide
theorem osem_ne_bar : ∀ k : Fin 19, osem k ≠ .reg barrier0 := by decide

def barEmb : Dev nD ↪ GSem nD τ sig := ⟨fun c => barCell c, fun _ _ h => congrArg (fun g : GSem nD τ sig => g.1.1) h⟩
def scEmb : Dev nD × Fin 19 ↪ GSem nD τ sig :=
  ⟨fun ck => ((ck.1 : Thread nD τ), osem ck.2), fun _ _ h =>
    Prod.ext (congrArg (fun g : GSem nD τ sig => g.1.1) h) (osem_inj (congrArg Prod.snd h))⟩
/-- The barriers of all devices. -/
abbrev barCells : Finset (GSem nD τ sig) := Finset.univ.map barEmb
/-- The DMA semaphores of all devices. -/
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem dma_mem (c : Dev nD) (n : Fin 20) (hn : n ≠ 0) : dcell c n ∈ (barCells ∪ scCells : Finset (GSem nD τ sig)) := by
  have h0 : n.val ≠ 0 := fun h => hn (Fin.ext h)
  have e : dcell c n = scEmb (c, ⟨n.val - 1, by have := n.isLt; omega⟩) := by
    show ((c : Thread nD τ), (SemLoc.dma n : SemLoc sig)) = ((c : Thread nD τ), osem _)
    unfold osem
    congr 2
    exact Fin.ext (by show n.val = n.val - 1 + 1; omega)
  rw [e]
  exact Finset.mem_union_right _ (Finset.mem_map_of_mem scEmb (Finset.mem_univ _))

/-- What every device may consult: the invariants of all cells under one map of names; that every barrier is in its first round. -/
def recs (K : GSem nD τ sig → ℕ) : sProp 𝕄 :=
  iprop((bigSep (barCells ∪ scCells) fun g => cellInv ER (rd I) (K g) g) ∗ bigSep barCells fun g => reached ER g 0)

instance recs_persistent (K : GSem nD τ sig → ℕ) : BI.Persistent (recs I K) := by unfold recs; infer_instance

theorem recs_bar (K : GSem nD τ sig → ℕ) (c : Dev nD) : recs I K ⊢ cellInv ER (rd I) (K (barCell c)) (barCell c) := by
  unfold recs
  iintro ⟨H, -⟩
  iapply (show (bigSep (barCells ∪ scCells) fun g => (cellInv ER (rd I) (K g) g : sProp 𝕄)) ⊢ _ from bigSep_elim (bar_mem c)) $$ H
theorem recs_dma (K : GSem nD τ sig → ℕ) (c : Dev nD) (n : Fin 20) (hn : n ≠ 0) : recs I K ⊢ cellInv ER (rd I) (K (dcell c n)) (dcell c n) := by
  unfold recs
  iintro ⟨H, -⟩
  iapply (show (bigSep (barCells ∪ scCells) fun g => (cellInv ER (rd I) (K g) g : sProp 𝕄)) ⊢ _ from bigSep_elim (dma_mem c n hn)) $$ H
theorem recs_reached (K : GSem nD τ sig → ℕ) (c : Dev nD) : recs I K ⊢ reached ER (barCell c) 0 := by
  unfold recs
  iintro ⟨-, H⟩
  iapply (show (bigSep barCells fun g => (reached ER g 0 : sProp 𝕄)) ⊢ _ from bigSep_elim (Finset.mem_map_of_mem barEmb (Finset.mem_univ c))) $$ H

theorem used_ne (n : Fin 20) (h : used n.val = true) : n ≠ 0 := by
  intro h'; subst h'; exact absurd h (by decide)

/-- A core owes these tallies, whatever waits are on record. -/
def owesX (c : Dev nD) (O : CellTallies nD τ sig Unit) : sProp 𝕄 := iprop(∃ W, owes (c : Thread nD τ) O W)

/-! ## Waits -/

/-- The wait on a DMA semaphore: what the copy onto it hands over comes into hand. -/
theorem wait_dma {α : Type} (K : GSem nD τ sig → ℕ) (c : Dev nD) (n : Fin 20) (hn : used n.val = true) (O : CellTallies nD τ sig Unit) (l : ℕ)
    (hl : lv (dcell c n) () ≤ l) (hO : Above l O)
    {sp sp' : Space} {s s' : Shape} {e e' : EltTy} {src : Memref sig .tc sp' s' e'} {dst : Memref sig .tc sp s e} {hsrc : src.view.WordExact}
    {hdst : dst.view.WordExact} (hk : dst.view.dmaCredit = amt n.val)
    {k : PUnit → Prog (TpuEff nD τ sig (Elt F) Λ₀ .tc) α} {Q : α → sProp 𝕄} :
    iprop(recs I K ∗ levAts L lv ∗ owesX c O ∗ cred (tallyAt (dcell c n) () (amt n.val)) ∗ atPos ER (dcell c n) 0 ∅ 0)
      ⊢ iprop(((owesX c O ∗ atPos ER (dcell c n) 1 ∅ 0 ∗ dmaPay I c n.val) -∗ wp frame (wpE (defs₀ (F := F)) 𝒱₀ c none) Set.univ (k ⟨⟩) Q)
          -∗ wp frame (wpE (defs₀ (F := F)) 𝒱₀ c none) Set.univ (.op (.waitDma2 (n : DmaSem sig) src dst hsrc hdst) k) Q) := by
  unfold owesX
  iintro ⟨#HR, #Hlev, ⟨%W, HO⟩, Hc, Hat⟩ Hk
  ihave #HI := recs_dma I K c n (used_ne n hn) $$ HR
  rw [← hk]
  iapply (Rounds.wp_wait_rest_token 𝒱₀ ER (rd I) (c : Thread nD τ) none (κ := K (dcell c n))
      (wpE_waitDma2_eq (src := src) (dst := dst) 𝒱₀ (c : Thread nD τ) none Set.univ) (Set.mem_univ _) () (O := O) (W := W) (R := 0) (m := 0) (T := ∅)
      ((Nat.zero_add _).trans (hk.trans (expect_dma I c n hn).symm))) $$ [HO Hc Hat]
  · isplitr; · iexact HI
    isplitl [Hc]; · iexact Hc
    isplitl [HO]; · iexact HO
    isplitr; · iapply (mayWait c (.dma n) l hl hO); iexact Hlev
    iexact Hat
  iintro ⟨HO, Hat, -, Hpay⟩
  ihave Hp := (Entails.of_eq (rest_dma I c n hn)) $$ Hpay
  iapply Hk
  isplitl [HO]; · iexists _; iexact HO
  isplitl [Hat] <;> iassumption

/-- The wait on the barrier: the peers' slots come into hand. -/
theorem wait_bar {α : Type} (K : GSem nD τ sig → ℕ) (c : Dev nD)
    {k : PUnit → Prog (TpuEff nD τ sig (Elt F) Λ₀ .tc) α} {Q : α → sProp 𝕄} :
    iprop(recs I K ∗ levAts L lv ∗ owesX c (Osnd1 c) ∗ cred (tallyAt (barCell c) () 3) ∗ atPos ER (barCell c) 0 ∅ 0)
      ⊢ iprop(((owesX c (Osnd1 c) ∗ atPos ER (barCell c) 1 ∅ 0 ∗ barPay c 1 ∗ barPay c 2 ∗ barPay c 3)
            -∗ wp frame (wpE (defs₀ (F := F)) 𝒱₀ c none) Set.univ (k ⟨⟩) Q)
          -∗ wp frame (wpE (defs₀ (F := F)) 𝒱₀ c none) Set.univ (.op (.semWait barrier0 (3 : ℕ)) k) Q) := by
  unfold owesX
  iintro ⟨#HR, #Hlev, ⟨%W, HO⟩, Hc, Hat⟩ Hk
  ihave #HI := recs_bar I K c $$ HR
  iapply (Rounds.wp_wait_rest_token 𝒱₀ ER (rd I) (c : Thread nD τ) none (κ := K (barCell c))
      (wpE_semWait_eq 𝒱₀ (c : Thread nD τ) none Set.univ) (Set.mem_univ _) () (O := Osnd1 c) (W := W) (R := 0) (m := 0) (T := ∅)
      ((Nat.zero_add 3).trans (expect_bar I c).symm)) $$ [HO Hc Hat]
  · isplitr; · iexact HI
    isplitl [Hc]; · iexact Hc
    isplitl [HO]; · iexact HO
    isplitr; · iapply (mayWait c (.reg barrier0) 1 (le_refl 1) (above_Osnd1 c)); iexact Hlev
    iexact Hat
  iintro ⟨HO, Hat, -, Hpay⟩
  ihave Hp := (Entails.of_eq (rest_bar I c)) $$ Hpay
  iapply Hk
  isplitl [HO]; · iexists _; iexact HO
  isplitl [Hat] <;> iassumption

/-! ## The signal to a peer's barrier -/

/-- What the barrier of the peer at distance `d` is paid, from the own slots. -/
theorem barPay_of (c : Dev nD) (d : Fin 4) :
    iprop((∃ f, ptS (F := F) c cc0_scratch6 (slotP d) f) ∗ (∃ f, ptS (F := F) c cc0_scratch8 (slotO d) f)
      ∗ reached ER (dcell c (r1 d)) 0 ∗ reached ER (dcell c (r2 d)) 0) ⊢ (barPay (rot c d) (opp d) : sProp 𝕄) := by
  have key : ∀ (c' : Dev nD) (d' : Fin 4), c' = c → d' = d →
      iprop((∃ f, ptS (F := F) c cc0_scratch6 (slotP d) f) ∗ (∃ f, ptS (F := F) c cc0_scratch8 (slotO d) f)
        ∗ reached ER (dcell c (r1 d)) 0 ∗ reached ER (dcell c (r2 d)) 0)
      ⊢ (iprop((∃ f, ptS (F := F) c' cc0_scratch6 (slotP d') f) ∗ (∃ f, ptS (F := F) c' cc0_scratch8 (slotO d') f)
        ∗ reached ER (dcell c' (r1 d')) 0 ∗ reached ER (dcell c' (r2 d')) 0) : sProp 𝕄) := by
    rintro _ _ rfl rfl
    exact BI.Entails.refl _
  exact key (rot (rot c d) (opp d)) (opp (opp d)) (rot_opp c d) (opp_opp d)

theorem opp_mem (d : Fin 4) (hd : d ≠ 0) : opp d ∈ ({1, 2, 3} : Finset (Fin 4)) := by revert hd; revert d; decide

/-- The signal to the barrier of the peer at distance `d`: the own slots that the peer is to write go with it. -/
theorem signal_bar {α : Type} (K : GSem nD τ sig → ℕ) (c n : Dev nD) (d : Fin 4) (hd : d ≠ 0) (hn : n = rot c d) (O : CellTallies nD τ sig Unit)
    {k : PUnit → Prog (TpuEff nD τ sig (Elt F) Λ₀ .tc) α} {Q : α → sProp 𝕄} :
    iprop(recs I K ∗ owesX c (O + TB c d) ∗ dutyTok ER (barCell (rot c d)) 0 (opp d)
        ∗ (∃ f, ptS (F := F) c cc0_scratch6 (slotP d) f) ∗ (∃ f, ptS (F := F) c cc0_scratch8 (slotO d) f)
        ∗ reached ER (dcell c (r1 d)) 0 ∗ reached ER (dcell c (r2 d)) 0)
      ⊢ iprop((owesX c O -∗ wp frame (wpE (defs₀ (F := F)) 𝒱₀ c none) Set.univ (k ⟨⟩) Q)
          -∗ wp frame (wpE (defs₀ (F := F)) 𝒱₀ c none) Set.univ (.op (.semSignal (n : Thread nD τ) barrier0 (1 : ℕ)) k) Q) := by
  subst hn
  unfold owesX
  iintro ⟨#HR, ⟨%W, HO⟩, Htok, H1, H2, H3, H4⟩ Hk
  ihave #HI := recs_bar I K (rot c d) $$ HR
  ihave #Hr := recs_reached I K (rot c d) $$ HR
  ihave Hpay := (barPay_of (F := F) c d) $$ [H1 H2 H3 H4]
  · isplitl [H1]; · iexact H1
    isplitl [H2]; · iexact H2
    isplitl [H3] <;> iassumption
  iapply (Rounds.wp_signal 𝒱₀ ER (rd I) (c : Thread nD τ) none (dst := (rot c d : Thread nD τ)) (sem := barrier0) (r := 0) (d := opp d)
      (κ := K (barCell (rot c d))) (by rw [duties_bar]; exact opp_mem d hd) (amount_bar I (rot c d) (opp d)) () O rfl (W := W)) $$ [HO Htok Hpay]
  · isplitr; · iexact HI
    isplitl [HO]; · iexact HO
    isplitl [Htok]; · iexact Htok
    isplitl [Hpay]; · rw [payload_bar]; iexact Hpay
    iexact Hr
  iintro HO
  iapply Hk
  iexists _; iexact HO

/-! ## Copies -/

/-- A whole buffer, as a copy names it. -/
theorem whole_pts (c : Dev nD) (b : Ref sig .tc) (q : PosShare TreeShare) (f : b.ty.Contents (Elt F)) :
    ((((Memref.whole b : Memref sig .tc _ _ _).view.loc (c : Thread nD τ)) ↦[(Memref.whole b : Memref sig .tc _ _ _).view.set]{q} f) : sProp 𝕄)
      = ptq c b q f := by
  rw [View.set_whole]

/-- A copy onto an own DMA semaphore. -/
theorem copy_in {α : Type} (K : GSem nD τ sig → ℕ) (c : Dev nD) (n : Fin 20) (hn : used n.val = true)
    {sp sp' : Space} {s : Shape} {e : EltTy} {src : Memref sig .tc sp s e} {dst : Memref sig .tc sp' s e}
    {hsrc : src.view.WordExact} {hdst : dst.view.WordExact} {hsem : (DmaTarget.here dst : DmaTarget nD τ sig .tc sp' s e).Typed sp (.dma (n : DmaSem sig))}
    (hk : dst.view.dmaCredit = amt n.val)
    {fs : Buf (Elt F) (src.view.loc (c : Thread nD τ))} {fd : Buf (Elt F) (dst.view.loc (c : Thread nD τ))} {A B : sProp 𝕄}
    (hA : A ⊢ (src.view.loc (c : Thread nD τ) ↦[src.view.set]{fullShare} fs)) (hB : B ⊢ (dst.view.loc (c : Thread nD τ) ↦[dst.view.set]{fullShare} fd))
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ dmaPay I c n.val)
    {k : PUnit → Prog (TpuEff nD τ sig (Elt F) Λ₀ .tc) α} {Q : α → sProp 𝕄} :
    iprop(recs I K ∗ A ∗ B ∗ dutyTok ER (dcell c n) 0 0 ∗ reached ER (dcell c n) 0)
      ⊢ iprop((cred (tallyAt (dcell c n) () (amt n.val)) -∗ wp frame (wpE (defs₀ (F := F)) 𝒱₀ c none) Set.univ (k ⟨⟩) Q)
          -∗ wp frame (wpE (defs₀ (F := F)) 𝒱₀ c none) Set.univ (.op (.enqueueDma src (.here dst) (.dma (n : DmaSem sig)) hsrc hdst hsem) k) Q) := by
  iintro ⟨#HR, HA, HB, Htok, Hr⟩ Hk
  ihave #HI := recs_dma I K c n (used_ne n hn) $$ HR
  ihave HA' := hA $$ HA
  ihave HB' := hB $$ HB
  iapply (Rounds.wp_copy_pointsTo 𝒱₀ ER (rd I) (c : Thread nD τ) none (src := src) (dst := dst) (sem := .dma n) (q := fullShare)
      (fs := fs) (fd := fd) (r := 0) (d := 0) (κ := K (dcell c n))
      (by rw [duties_dma I c n hn]; exact Finset.mem_singleton_self _) () (amt n.val) hk (amount_dma I c n 0)
      (by rw [payload_dma]; exact hpay)) $$ [HA' HB' Htok Hr]
  · isplitr; · iexact HI
    isplitl [HA']; · iexact HA'
    isplitl [HB']; · iexact HB'
    isplitl [Htok] <;> iassumption
  iexact Hk

theorem used_s1 (d : Fin 4) (hd : d ≠ 0) : used (s1 d).val = true := by revert hd; revert d; decide
theorem used_s2 (d : Fin 4) (hd : d ≠ 0) : used (s2 d).val = true := by revert hd; revert d; decide
theorem used_r1 (d : Fin 4) (hd : d ≠ 0) : used (r1 (opp d)).val = true := by revert hd; revert d; decide
theorem used_r2 (d : Fin 4) (hd : d ≠ 0) : used (r2 (opp d)).val = true := by revert hd; revert d; decide

/-- A copy to the peer `n` onto its semaphore `n₂`, the source handed back on the own semaphore `n₁`. -/
theorem send_step {α : Type} (K : GSem nD τ sig → ℕ) (c n : Dev nD) (n₁ n₂ : Fin 20) (h₁ : used n₁.val = true) (h₂ : used n₂.val = true) (N : ℕ)
    (hN₁ : amt n₁.val = N) (hN₂ : amt n₂.val = N) (O : CellTallies nD τ sig Unit)
    {s : Shape} {e : EltTy} {src dst : Memref sig .tc .vmem s e} {hsc : dst.view.ref.isScScratch = false}
    {hsrc : src.view.WordExact} {hdst : dst.view.WordExact} {hsem : (DmaTarget.remote (n : Thread nD τ) dst (.dma (n₁ : DmaSem sig)) hsc : DmaTarget nD τ sig .tc .vmem s e).Typed .vmem (.dma (n₂ : DmaSem sig))}
    (hk : dst.view.dmaCredit = N) {q : PosShare TreeShare}
    {fs : Buf (Elt F) (src.view.loc (c : Thread nD τ))} {fd : Buf (Elt F) (dst.view.loc (n : Thread nD τ))}
    (hpay₁ : (src.view.loc (c : Thread nD τ) ↦[src.view.set]{q} fs) ⊢ dmaPay I c n₁.val)
    (hpay₂ : (dst.view.loc (n : Thread nD τ) ↦[dst.view.set]{fullShare} (dst.view.write (Elt F) fd (src.view.read (Elt F) fs) Finset.univ)) ⊢ dmaPay I n n₂.val)
    {k : PUnit → Prog (TpuEff nD τ sig (Elt F) Λ₀ .tc) α} {Q : α → sProp 𝕄} :
    iprop(recs I K ∗ owesX c (O + tallyAt (dcell n n₂) () N)
        ∗ (src.view.loc (c : Thread nD τ) ↦[src.view.set]{q} fs) ∗ (dst.view.loc (n : Thread nD τ) ↦[dst.view.set]{fullShare} fd)
        ∗ dutyTok ER (dcell c n₁) 0 0 ∗ reached ER (dcell c n₁) 0 ∗ dutyTok ER (dcell n n₂) 0 0 ∗ reached ER (dcell n n₂) 0)
      ⊢ iprop(((cred (tallyAt (dcell c n₁) () N) ∗ owesX c O) -∗ wp frame (wpE (defs₀ (F := F)) 𝒱₀ c none) Set.univ (k ⟨⟩) Q)
          -∗ wp frame (wpE (defs₀ (F := F)) 𝒱₀ c none) Set.univ
              (.op (.enqueueDma src (.remote (n : Thread nD τ) dst (.dma (n₁ : DmaSem sig)) hsc) (.dma (n₂ : DmaSem sig)) hsrc hdst hsem) k) Q) := by
  unfold owesX
  iintro ⟨#HR, ⟨%W, HO⟩, Hs, Hd, Ht1, Hr1, Ht2, Hr2⟩ Hk
  ihave #HI1 := recs_dma I K c n₁ (used_ne n₁ h₁) $$ HR
  ihave #HI2 := recs_dma I K n n₂ (used_ne n₂ h₂) $$ HR
  iapply (Rounds.wp_send_pointsTo 𝒱₀ ER (rd I) (c : Thread nD τ) none (c' := (n : Thread nD τ)) (src := src) (dst := dst)
      (sS := .dma n₁) (sem := .dma n₂) (q := q) (fs := fs) (κ₁ := K (dcell c n₁)) (κ₂ := K (dcell n n₂))
      (r₁ := 0) (r₂ := 0) (d₁ := 0) (d₂ := 0) (fd := fd)
      (by rw [duties_dma I c n₁ h₁]; exact Finset.mem_singleton_self _) (by rw [duties_dma I n n₂ h₂]; exact Finset.mem_singleton_self _)
      () () N hk ((amount_dma I c n₁ 0).trans hN₁) ((amount_dma I n n₂ 0).trans hN₂) O rfl (W := W)
      (by rw [payload_dma]; exact hpay₁) (by rw [payload_dma]; exact hpay₂)) $$ [HO Hs Hd Ht1 Hr1 Ht2 Hr2]
  · isplitr; · iexact HI1
    isplitr; · iexact HI2
    isplitl [Hs]; · iexact Hs
    isplitl [Hd]; · iexact Hd
    isplitl [HO]; · iexact HO
    isplitl [Ht1]; · iexact Ht1
    isplitl [Hr1]; · iexact Hr1
    isplitl [Ht2] <;> iassumption
  iintro ⟨Hc, HO⟩
  iapply Hk
  isplitl [Hc]; · iexact Hc
  iexists _; iexact HO

theorem amt_s1 (d : Fin 4) (hd : d ≠ 0) : amt (s1 d).val = amt 6 := by revert hd; revert d; rw [Fin.forall_fin_succ, Fin.forall_fin_succ, Fin.forall_fin_succ, Fin.forall_fin_succ]; exact ⟨fun h => absurd rfl h, fun _ => rfl, fun _ => rfl, fun _ => rfl, fun j => j.elim0⟩
theorem amt_r1 (d : Fin 4) : amt (r1 d).val = amt 6 := by revert d; rw [Fin.forall_fin_succ, Fin.forall_fin_succ, Fin.forall_fin_succ, Fin.forall_fin_succ]; exact ⟨rfl, rfl, rfl, rfl, fun j => j.elim0⟩
theorem amt_s2 (d : Fin 4) (hd : d ≠ 0) : amt (s2 d).val = amt 13 := by revert hd; revert d; rw [Fin.forall_fin_succ, Fin.forall_fin_succ, Fin.forall_fin_succ, Fin.forall_fin_succ]; exact ⟨fun h => absurd rfl h, fun _ => rfl, fun _ => rfl, fun _ => rfl, fun j => j.elim0⟩
theorem amt_r2 (d : Fin 4) : amt (r2 d).val = amt 13 := by revert d; rw [Fin.forall_fin_succ, Fin.forall_fin_succ, Fin.forall_fin_succ, Fin.forall_fin_succ]; exact ⟨rfl, rfl, rfl, rfl, fun j => j.elim0⟩

/-- The right to write slot `opp d` of the peer at distance `d`, from its payment to the barrier. -/
def slotAt1 (c : Dev nD) (d : Fin 4) : sProp 𝕄 :=
  iprop((∃ f, ptS (F := F) (rot c d) cc0_scratch6 (slotP (opp d)) f) ∗ reached ER (dcell (rot c d) (r1 (opp d))) 0)
def slotAt2 (c : Dev nD) (d : Fin 4) : sProp 𝕄 :=
  iprop((∃ f, ptS (F := F) (rot c d) cc0_scratch8 (slotO (opp d)) f) ∗ reached ER (dcell (rot c d) (r2 (opp d))) 0)
theorem barPay_split (c : Dev nD) (d : Fin 4) : (barPay c d : sProp 𝕄) ⊢ iprop(slotAt1 c d ∗ slotAt2 c d) := by
  unfold barPay slotAt1 slotAt2
  iintro ⟨H1, H2, H3, H4⟩
  isplitl [H1 H3]
  · isplitl [H1] <;> iassumption
  · isplitl [H2] <;> iassumption

/-- The copy of the first exchange to the peer at distance `d`: its quarter of the own partial result. -/
theorem send1 {α : Type} (K : GSem nD τ sig → ℕ) (c n : Dev nD) (d : Fin 4) (hd : d ≠ 0) (hn : n = rot c d) (n₁ n₂ : Fin 20) (h₁ : n₁ = s1 d) (h₂ : n₂ = r1 (opp d))
    (O : CellTallies nD τ sig Unit)
    {o : Fin 2 → ℕ} (inb : ∀ a, o a + S64x640.size a ≤ S256x640.size a) (ho : o = ![64 * (rot c d).val, 0])
    {o' : Fin 3 → ℕ} (inb' : ∀ a, o' a + S1x64x640.size a ≤ S4x64x640.size a) (ho' : o' = ![(opp d).val, 0, 0])
    {hsc : (pSl o' inb').view.ref.isScScratch = false} {hsrc : (locSl o inb).view.WordExact} {hdst : (pSl o' inb').view.WordExact}
    {hsem : (DmaTarget.remote (n : Thread nD τ) (pSl o' inb') (.dma (n₁ : DmaSem sig)) hsc : DmaTarget nD τ sig .tc .vmem S64x640 .bf16).Typed .vmem (.dma (n₂ : DmaSem sig))}
    {k : PUnit → Prog (TpuEff nD τ sig (Elt F) Λ₀ .tc) α} {Q : α → sProp 𝕄} :
    iprop(recs I K ∗ owesX c (O + T1 c d) ∗ ptS c cc0_scratch5 (rowsQ (rot c d)) (locV I c) ∗ slotAt1 c d
        ∗ dutyTok ER (dcell c (s1 d)) 0 0 ∗ reached ER (dcell c (s1 d)) 0 ∗ dutyTok ER (dcell (rot c d) (r1 (opp d))) 0 0)
      ⊢ iprop(((cred (tallyAt (dcell c (s1 d)) () (amt (s1 d).val)) ∗ owesX c O) -∗ wp frame (wpE (defs₀ (F := F)) 𝒱₀ c none) Set.univ (k ⟨⟩) Q)
          -∗ wp frame (wpE (defs₀ (F := F)) 𝒱₀ c none) Set.univ
              (.op (.enqueueDma (locSl o inb) (.remote (n : Thread nD τ) (pSl o' inb') (.dma (n₁ : DmaSem sig)) hsc) (.dma (n₂ : DmaSem sig)) hsrc hdst hsem) k) Q) := by
  subst hn h₁ h₂
  unfold slotAt1 T1
  rw [amt_r1, amt_s1 d hd]
  iintro ⟨#HR, HO, Hs, ⟨⟨%fd, Hd⟩, Hr2⟩, Ht1, Hr1, Ht2⟩ Hk
  iapply (send_step I K c (rot c d) (s1 d) (r1 (opp d)) (used_s1 d hd) (used_r1 d hd) (amt 6) (amt_s1 d hd) (amt_r1 _) O
      (src := locSl o inb) (dst := pSl o' inb') rfl (q := fullShare) (fs := locV I c) (fd := fd)
      (by rw [dmaPay_s1 I c d hd, locSl_set (rot c d) inb ho])
      (by
        rw [dmaPay_r1, pSl_set (opp d) inb' ho']
        exact Entails.of_eq (pointsTo_congr (land1 I c d inb ho inb' ho' fd)))) $$ [HO Hs Hd Ht1 Hr1 Ht2 Hr2]
  · isplitr; · iexact HR
    isplitl [HO]; · iexact HO
    isplitl [Hs]; · rw [locSl_set (rot c d) inb ho]; iexact Hs
    isplitl [Hd]; · rw [pSl_set (opp d) inb' ho']; iexact Hd
    isplitl [Ht1]; · iexact Ht1
    isplitl [Hr1]; · iexact Hr1
    isplitl [Ht2] <;> iassumption
  iexact Hk

/-- The copy of the second exchange to the peer at distance `d`: the narrowed own quarter. -/
theorem send2 {α : Type} (K : GSem nD τ sig → ℕ) (c n : Dev nD) (d : Fin 4) (hd : d ≠ 0) (hn : n = rot c d) (n₁ n₂ : Fin 20) (h₁ : n₁ = s2 d) (h₂ : n₂ = r2 (opp d))
    (O : CellTallies nD τ sig Unit)
    {o' : Fin 3 → ℕ} (inb' : ∀ a, o' a + S1x64x512.size a ≤ S4x64x512.size a) (ho' : o' = ![(opp d).val, 0, 0])
    {hsc : (oSl o' inb').view.ref.isScScratch = false} {hsrc : (osM).view.WordExact} {hdst : (oSl o' inb').view.WordExact}
    {hsem : (DmaTarget.remote (n : Thread nD τ) (oSl o' inb') (.dma (n₁ : DmaSem sig)) hsc : DmaTarget nD τ sig .tc .vmem S64x512 .bf16).Typed .vmem (.dma (n₂ : DmaSem sig))}
    {k : PUnit → Prog (TpuEff nD τ sig (Elt F) Λ₀ .tc) α} {Q : α → sProp 𝕄} :
    iprop(recs I K ∗ owesX c (O + T2 c d) ∗ ptq c cc0_scratch7 (shr d) (osendV I c) ∗ slotAt2 c d
        ∗ dutyTok ER (dcell c (s2 d)) 0 0 ∗ reached ER (dcell c (s2 d)) 0 ∗ dutyTok ER (dcell (rot c d) (r2 (opp d))) 0 0)
      ⊢ iprop(((cred (tallyAt (dcell c (s2 d)) () (amt (s2 d).val)) ∗ owesX c O) -∗ wp frame (wpE (defs₀ (F := F)) 𝒱₀ c none) Set.univ (k ⟨⟩) Q)
          -∗ wp frame (wpE (defs₀ (F := F)) 𝒱₀ c none) Set.univ
              (.op (.enqueueDma osM (.remote (n : Thread nD τ) (oSl o' inb') (.dma (n₁ : DmaSem sig)) hsc) (.dma (n₂ : DmaSem sig)) hsrc hdst hsem) k) Q) := by
  subst hn h₁ h₂
  unfold slotAt2 T2
  rw [amt_r2, amt_s2 d hd]
  iintro ⟨#HR, HO, Hs, ⟨⟨%fd, Hd⟩, Hr2⟩, Ht1, Hr1, Ht2⟩ Hk
  iapply (send_step I K c (rot c d) (s2 d) (r2 (opp d)) (used_s2 d hd) (used_r2 d hd) (amt 13) (amt_s2 d hd) (amt_r2 _) O
      (src := osM) (dst := oSl o' inb') rfl (q := shr d) (fs := osendV I c) (fd := fd)
      (by rw [dmaPay_s2 I c d hd, View.set_whole])
      (by
        rw [dmaPay_r2, oSl_set (opp d) inb' ho']
        exact Entails.of_eq (pointsTo_congr (land2 I c d inb' ho' fd)))) $$ [HO Hs Hd Ht1 Hr1 Ht2 Hr2]
  · isplitr; · iexact HR
    isplitl [HO]; · iexact HO
    isplitl [Hs]; · rw [View.set_whole]; iexact Hs
    isplitl [Hd]; · rw [oSl_set (opp d) inb' ho']; iexact Hd
    isplitl [Ht1]; · iexact Ht1
    isplitl [Hr1]; · iexact Hr1
    isplitl [Ht2] <;> iassumption
  iexact Hk

end Cert.KernelIdeal.Attn

end
-- ==== Proof.Body1.lean ====
/-
  The first half of the kernel's body, part by part: the copies in, the signals, the computation of the partial result and
  the wait on the barrier.
-/
module

public import proofs.«01_k».proof.Proof.Steps

@[expose] public section

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] (I : Ins F)

local notation "𝕄" => MT nD τ sig Unit (Elt F) ℕ UU ℕ

/-- The position of a core on an own DMA semaphore before and after its wait. -/
abbrev at0 (c : Dev nD) (n : Fin 20) : sProp 𝕄 := atPos ER (dcell c n) 0 ∅ 0
abbrev at1 (c : Dev nD) (n : Fin 20) : sProp 𝕄 := atPos ER (dcell c n) 1 ∅ 0
/-- The credit a core waits with on an own DMA semaphore. -/
abbrev crd (c : Dev nD) (n : Fin 20) : sProp 𝕄 := cred (tallyAt (dcell c n) () (amt n.val))
/-- The token of the one copy onto a DMA semaphore. -/
abbrev tok (c : Dev nD) (n : Fin 20) : sProp 𝕄 := dutyTok ER (dcell c n) 0 0
/-- That a DMA semaphore is in its first round. -/
abbrev rch (c : Dev nD) (n : Fin 20) : sProp 𝕄 := reached ER (dcell c n) 0

theorem lv_le (c : Dev nD) (n : Fin 20) (k : ℕ) (h : (if 16 ≤ n.val then 3 else if 9 ≤ n.val ∧ n.val < 13 then 2 else 0) ≤ k) : lv (dcell c n) () ≤ k := h
theorem zero2 : (![0, 0] : Fin 2 → ℕ) = fun _ => 0 := by decide

/-- What the copy onto semaphore `n` takes besides its two buffers. -/
abbrev inRes (c : Dev nD) (n : Fin 20) : sProp 𝕄 := iprop(tok (F := F) c n ∗ rch (F := F) c n)
/-- What the signal to the peer at distance `d` takes. -/
abbrev sigRes (c : Dev nD) (d : Fin 4) : sProp 𝕄 :=
  iprop(dutyTok ER (barCell (rot c d)) 0 (opp d) ∗ (∃ f, ptS (F := F) c cc0_scratch6 (slotP d) f) ∗ (∃ f, ptS (F := F) c cc0_scratch8 (slotO d) f)
        ∗ reached ER (dcell c (r1 d)) 0 ∗ reached ER (dcell c (r2 d)) 0)

/-- The five copies in and the first signal. -/
theorem part1_run (K : GSem nD τ sig → ℕ) (c : Dev nD) (Kt : (Σ' (d0 : Dev nD) (v2 : BitVec 32) (v13 : Sems sig S_) (v29 : BitVec 32) (v30 : BitVec 32), BitVec 32) → sProp 𝕄) :
    iprop((recs I K ∗ owesX c (O₀ c) ∗ sigRes c 1
        ∗ (pt c main_v1 (I.x c) ∗ (∃ f, pt (F := F) c cc0_scratch0 f) ∗ inRes c 1)
        ∗ (pt c main_arg1 (I.wq c) ∗ (∃ f, pt (F := F) c cc0_scratch1 f) ∗ inRes c 2)
        ∗ (pt c main_v2 (I.k c) ∗ (∃ f, pt (F := F) c cc0_scratch3 f) ∗ inRes c 3)
        ∗ (pt c main_v3 (I.v c) ∗ (∃ f, pt (F := F) c cc0_scratch4 f) ∗ inRes c 4)
        ∗ (pt c main_arg2 (I.wo c) ∗ (∃ f, pt (F := F) c cc0_scratch2 f) ∗ inRes c 5))
      ∗ ((owesX c (Osnd1 c + TB c 3 + TB c 2) ∗ crd c 1 ∗ crd c 2 ∗ crd c 3 ∗ crd c 4 ∗ crd c 5)
          -∗ Kt ⟨c, Scalar.remsi (Scalar.divsi c.word 1#32) 4#32, SemArray.scalar (sig.barrier 0 rfl), Scalar.select (Scalar.cmpi CmpIPredicate.eq 4#32 0#32) 1#32 4#32, Scalar.remsi (Scalar.addi (Scalar.remsi (Scalar.divsi c.word 1#32) 4#32) 2#32) (Scalar.select (Scalar.cmpi CmpIPredicate.eq 4#32 0#32) 1#32 4#32), 0#32⟩))
      ⊢ wp frame (wpE (defs₀ (F := F)) 𝒱₀ c none) Set.univ (k0_part1 (F := F) xM (Memref.isWhole_whole _) wqM (Memref.isWhole_whole _) woM (Memref.isWhole_whole _) kM (Memref.isWhole_whole _) vM (Memref.isWhole_whole _) outM (Memref.isWhole_whole _) xsM (Memref.isWhole_whole _) wqsM (Memref.isWhole_whole _) wosM (Memref.isWhole_whole _) ksM (Memref.isWhole_whole _) vsM (Memref.isWhole_whole _) locM (Memref.isWhole_whole _) pM (Memref.isWhole_whole _) osM (Memref.isWhole_whole _) obM (Memref.isWhole_whole _) cc0_scratch9 cc0_scratch10 cc0_scratch11 cc0_scratch12 cc0_scratch13) Kt := by
  simp only [k0_part1_eq_skeleton]; unfold k0_part1_skel
  simp only [semSignalWord, Prog.lift, Prog.bind_op, Prog.bind_ret, Prog.pure_eq_ret, wp_deviceId]
  unfold inRes sigRes
  iintro ⟨⟨#HR, HO, ⟨Ht, Hp, Ho, Hr1, Hr2⟩, ⟨A1, ⟨%f1, B1⟩, T1, R1⟩, ⟨A2, ⟨%f2, B2⟩, T2, R2⟩, ⟨A3, ⟨%f3, B3⟩, T3, R3⟩, ⟨A4, ⟨%f4, B4⟩, T4, R4⟩, ⟨A5, ⟨%f5, B5⟩, T5, R5⟩⟩, Hk⟩
  iapply (copy_in I K c 1 (by decide) (src := Memref.whole main_v1) (dst := Memref.whole cc0_scratch0) rfl (fs := I.x c) (fd := f1)
      (A := pt c main_v1 (I.x c)) (B := pt c cc0_scratch0 f1) (Entails.of_eq (whole_pts c main_v1 fullShare _).symm) (Entails.of_eq (whole_pts c cc0_scratch0 fullShare _).symm)
      (Entails.of_eq (by rw [whole_pts, whole_pts, View.write_whole_univ, View.read_whole]; rfl))) $$ [A1 B1 T1 R1]
  · isplitr; · iexact HR
    isplitl [A1]; · iexact A1
    isplitl [B1]; · iexact B1
    isplitl [T1] <;> iassumption
  iintro C1
  iapply (copy_in I K c 2 (by decide) (src := Memref.whole main_arg1) (dst := Memref.whole cc0_scratch1) rfl (fs := I.wq c) (fd := f2)
      (A := pt c main_arg1 (I.wq c)) (B := pt c cc0_scratch1 f2) (Entails.of_eq (whole_pts c main_arg1 fullShare _).symm) (Entails.of_eq (whole_pts c cc0_scratch1 fullShare _).symm)
      (Entails.of_eq (by rw [whole_pts, whole_pts, View.write_whole_univ, View.read_whole]; rfl))) $$ [A2 B2 T2 R2]
  · isplitr; · iexact HR
    isplitl [A2]; · iexact A2
    isplitl [B2]; · iexact B2
    isplitl [T2] <;> iassumption
  iintro C2
  iapply (copy_in I K c 3 (by decide) (src := Memref.whole main_v2) (dst := Memref.whole cc0_scratch3) rfl (fs := I.k c) (fd := f3)
      (A := pt c main_v2 (I.k c)) (B := pt c cc0_scratch3 f3) (Entails.of_eq (whole_pts c main_v2 fullShare _).symm) (Entails.of_eq (whole_pts c cc0_scratch3 fullShare _).symm)
      (Entails.of_eq (by rw [whole_pts, whole_pts, View.write_whole_univ, View.read_whole]; rfl))) $$ [A3 B3 T3 R3]
  · isplitr; · iexact HR
    isplitl [A3]; · iexact A3
    isplitl [B3]; · iexact B3
    isplitl [T3] <;> iassumption
  iintro C3
  iapply (copy_in I K c 4 (by decide) (src := Memref.whole main_v3) (dst := Memref.whole cc0_scratch4) rfl (fs := I.v c) (fd := f4)
      (A := pt c main_v3 (I.v c)) (B := pt c cc0_scratch4 f4) (Entails.of_eq (whole_pts c main_v3 fullShare _).symm) (Entails.of_eq (whole_pts c cc0_scratch4 fullShare _).symm)
      (Entails.of_eq (by rw [whole_pts, whole_pts, View.write_whole_univ, View.read_whole]; rfl))) $$ [A4 B4 T4 R4]
  · isplitr; · iexact HR
    isplitl [A4]; · iexact A4
    isplitl [B4]; · iexact B4
    isplitl [T4] <;> iassumption
  iintro C4
  iapply (copy_in I K c 5 (by decide) (src := Memref.whole main_arg2) (dst := Memref.whole cc0_scratch2) rfl (fs := I.wo c) (fd := f5)
      (A := pt c main_arg2 (I.wo c)) (B := pt c cc0_scratch2 f5) (Entails.of_eq (whole_pts c main_arg2 fullShare _).symm) (Entails.of_eq (whole_pts c cc0_scratch2 fullShare _).symm)
      (Entails.of_eq (by rw [whole_pts, whole_pts, View.write_whole_univ, View.read_whole]; rfl))) $$ [A5 B5 T5 R5]
  · isplitr; · iexact HR
    isplitl [A5]; · iexact A5
    isplitl [B5]; · iexact B5
    isplitl [T5] <;> iassumption
  iintro C5
  iapply (signal_bar I K c ⟨k0_dev1 c, k0_dev1_lt c⟩ 1 (by decide) (dev1_eq c) (Osnd1 c + TB c 3 + TB c 2)) $$ [HO Ht Hp Ho Hr1 Hr2]
  · isplitr; · iexact HR
    isplitl [HO]; · iexact HO
    isplitl [Ht]; · iexact Ht
    isplitl [Hp]; · iexact Hp
    isplitl [Ho]; · iexact Ho
    isplitl [Hr1] <;> iassumption
  iintro HO
  rw [wp_ret]
  imodintro
  iapply Hk
  isplitl [HO]; · iexact HO
  isplitl [C1]; · iexact C1
  isplitl [C2]; · iexact C2
  isplitl [C3]; · iexact C3
  isplitl [C4] <;> iassumption

/-- The two other signals, and the queries' operands in hand. -/
theorem part2_run (K : GSem nD τ sig → ℕ) (c : Dev nD) (v2 v29 v30 w : BitVec 32) (Kt : FVec F S256x512 .f32 → sProp 𝕄) :
    iprop((recs I K ∗ levAts L lv ∗ owesX c (Osnd1 c + TB c 3 + TB c 2) ∗ sigRes c 2 ∗ sigRes c 3
        ∗ crd c 1 ∗ crd c 2 ∗ at0 c 1 ∗ at0 c 2)
      ∗ ((owesX c (Osnd1 c) ∗ at1 c 1 ∗ at1 c 2 ∗ (pt c cc0_scratch0 (I.x c) ∗ pt c main_v1 (I.x c)) ∗ (pt c cc0_scratch1 (I.wq c) ∗ pt c main_arg1 (I.wq c)))
          -∗ Kt (k0_pay2 (I.x c) (I.wq c))))
      ⊢ wp frame (wpE (defs₀ (F := F)) 𝒱₀ c none) Set.univ (k0_part2 (F := F) xM (Memref.isWhole_whole _) wqM (Memref.isWhole_whole _) woM (Memref.isWhole_whole _) kM (Memref.isWhole_whole _) vM (Memref.isWhole_whole _) outM (Memref.isWhole_whole _) xsM (Memref.isWhole_whole _) wqsM (Memref.isWhole_whole _) wosM (Memref.isWhole_whole _) ksM (Memref.isWhole_whole _) vsM (Memref.isWhole_whole _) locM (Memref.isWhole_whole _) pM (Memref.isWhole_whole _) osM (Memref.isWhole_whole _) obM (Memref.isWhole_whole _) cc0_scratch9 cc0_scratch10 cc0_scratch11 cc0_scratch12 cc0_scratch13 c v2 (SemArray.scalar (sig.barrier 0 rfl)) v29 v30 w) Kt := by
  simp only [k0_part2_eq_skeleton]; unfold k0_part2_skel
  simp only [semSignalWord, Prog.lift, Prog.bind_op, Prog.bind_ret, Prog.pure_eq_ret]
  unfold sigRes
  iintro ⟨⟨#HR, #Hlev, HO, ⟨Ht, Hp, Ho, Hr1, Hr2⟩, ⟨Ht', Hp', Ho', Hr1', Hr2'⟩, C1, C2, P1, P2⟩, Hk⟩
  iapply (signal_bar I K c ⟨k0_dev2 c, k0_dev2_lt c⟩ 2 (by decide) (dev2_eq c) (Osnd1 c + TB c 3)) $$ [HO Ht Hp Ho Hr1 Hr2]
  · isplitr; · iexact HR
    isplitl [HO]; · iexact HO
    isplitl [Ht]; · iexact Ht
    isplitl [Hp]; · iexact Hp
    isplitl [Ho]; · iexact Ho
    isplitl [Hr1] <;> iassumption
  iintro HO
  iapply (signal_bar I K c ⟨k0_dev3 c, k0_dev3_lt c⟩ 3 (by decide) (dev3_eq c) (Osnd1 c)) $$ [HO Ht' Hp' Ho' Hr1' Hr2']
  · isplitr; · iexact HR
    isplitl [HO]; · iexact HO
    isplitl [Ht']; · iexact Ht'
    isplitl [Hp']; · iexact Hp'
    isplitl [Ho']; · iexact Ho'
    isplitl [Hr1'] <;> iassumption
  iintro HO
  iapply (wait_dma I K c 1 (by decide) (Osnd1 c) 1 (lv_le c _ _ (by decide)) (above_Osnd1 c) (src := xM) (dst := xsM) rfl) $$ [HO C1 P1]
  · isplitr; · iexact HR
    isplitr; · iexact Hlev
    isplitl [HO]; · iexact HO
    isplitl [C1] <;> iassumption
  iintro ⟨HO, P1, D1⟩
  iapply (wait_dma I K c 2 (by decide) (Osnd1 c) 1 (lv_le c _ _ (by decide)) (above_Osnd1 c) (src := wqM) (dst := wqsM) rfl) $$ [HO C2 P2]
  · isplitr; · iexact HR
    isplitr; · iexact Hlev
    isplitl [HO]; · iexact HO
    isplitl [C2] <;> iassumption
  iintro ⟨HO, P2, D2⟩
  ihave D1' := (show dmaPay I c (1 : Fin 20).val ⊢ iprop(pt c cc0_scratch0 (I.x c) ∗ pt c main_v1 (I.x c)) from Entails.of_eq rfl) $$ D1
  ihave D2' := (show dmaPay I c (2 : Fin 20).val ⊢ iprop(pt c cc0_scratch1 (I.wq c) ∗ pt c main_arg1 (I.wq c)) from Entails.of_eq rfl) $$ D2
  icases D1' with ⟨B1, A1⟩
  icases D2' with ⟨B2, A2⟩
  iapply (wp_load 𝒱₀ (c : Thread nD τ) none Set.univ (m := xsM) (S := Finset.univ) (Finset.subset_univ _)) $$ [B1]
  · iexact B1
  iintro B1
  iapply (wp_load 𝒱₀ (c : Thread nD τ) none Set.univ (m := wqsM) (S := Finset.univ) (Finset.subset_univ _)) $$ [B2]
  · iexact B2
  iintro B2
  rw [wp_ret]
  imodintro
  rw [show View.readAt (Elt F) xsM.view (Rect.unit (s := S256x512) ![0, 0] S256x512.size inb_S256x512_S256x512_0_0).toLoadRect (I.x c) = I.x c from Memref.readAt_unit_zero (Elt F) cc0_scratch0 zero2 _ _,
    show View.readAt (Elt F) wqsM.view (Rect.unit (s := S512x512) ![0, 0] S512x512.size inb_S512x512_S512x512_0_0).toLoadRect (I.wq c) = I.wq c from Memref.readAt_unit_zero (Elt F) cc0_scratch1 zero2 _ _]
  iapply Hk
  isplitl [HO]; · iexact HO
  isplitl [P1]; · iexact P1
  isplitl [P2]; · iexact P2
  isplitl [B1 A1]; · isplitl [B1] <;> iassumption
  isplitl [B2] <;> iassumption

/-- The columns for the denominators are cleared. -/
theorem part3_run (c : Dev nD) (f : (cc0_scratch5 : Ref sig .tc).ty.Contents (Elt F)) (v63 : FVec F S256x512 .f32)
    (Kt : (Σ' (v64 : FVec F S256x512 .bf16) (v70 : IVec S256x256 32) (v94 : IVec S256x256 32) (c128 : BitVec 32) (v96 : IVec S256x256 32) (v103 : IVec S256x256 32) (v105 : BitVec 32), BitVec 32) → sProp 𝕄) :
    iprop(pt c cc0_scratch5 f
      ∗ (pt c cc0_scratch5 ((locM.access (Rect.unit (s := S256x640) ![0, 512] S256x128.size inb_S256x640_S256x128_0_512)).write (Elt F) f k0_pay4 Finset.univ)
          -∗ Kt ⟨k0_pay3 v63, iota70, k0_pay5, 128#32, k0_pay6, k0_pay7, w105, w107⟩))
      ⊢ wp frame (wpE (defs₀ (F := F)) 𝒱₀ c none) Set.univ (k0_part3 (F := F) xM (Memref.isWhole_whole _) wqM (Memref.isWhole_whole _) woM (Memref.isWhole_whole _) kM (Memref.isWhole_whole _) vM (Memref.isWhole_whole _) outM (Memref.isWhole_whole _) xsM (Memref.isWhole_whole _) wqsM (Memref.isWhole_whole _) wosM (Memref.isWhole_whole _) ksM (Memref.isWhole_whole _) vsM (Memref.isWhole_whole _) locM (Memref.isWhole_whole _) pM (Memref.isWhole_whole _) osM (Memref.isWhole_whole _) obM (Memref.isWhole_whole _) cc0_scratch9 cc0_scratch10 cc0_scratch11 cc0_scratch12 cc0_scratch13 v63) Kt := by
  simp only [k0_part3_eq_skeleton]; unfold k0_part3_skel
  simp only [Prog.lift, Prog.bind_op, Prog.bind_ret, Prog.pure_eq_ret]
  iintro ⟨H, Hk⟩
  iapply (wp_load 𝒱₀ (c : Thread nD τ) none Set.univ (m := locM) (S := Finset.univ) (Finset.subset_univ _)) $$ [H]
  · iexact H
  iintro H
  iapply (wp_store 𝒱₀ (c : Thread nD τ) none Set.univ (m := locM) (S := Finset.univ) (Finset.subset_univ _)) $$ [H]
  · iexact H
  iintro H
  rw [wp_ret]
  imodintro
  iapply Hk
  iexact H

/-- The keys and the values in hand, and the payloads of the first head. -/
theorem part4_run (K : GSem nD τ sig → ℕ) (c : Dev nD) (Kt : (Σ' (v121 : FVec F S256x256 .f32) (v127 : FVec F S256x512 .bf16) (v129 : FVec F S256x512 .bf16) (v137 : FVec F S256x1 .bf16) (v141 : FVec F S256x64 .bf16) (v149 : FVec F S256x1 .bf16) (v150 : FVec F S256x256 .bf16) (v151 : FVec F S256x64 .bf16), FVec F S256x64 .f32) → sProp 𝕄) :
    iprop((recs I K ∗ levAts L lv ∗ owesX c (Osnd1 c) ∗ crd c 3 ∗ crd c 4 ∗ at0 c 3 ∗ at0 c 4)
      ∗ ((owesX c (Osnd1 c) ∗ at1 c 3 ∗ at1 c 4 ∗ (pt c cc0_scratch3 (I.k c) ∗ pt c main_v2 (I.k c)) ∗ (pt c cc0_scratch4 (I.v c) ∗ pt c main_v3 (I.v c)))
          -∗ Kt ⟨maskV, kbV I c, vbV I c, k0_pay12 (qV I c) iota70 k0_pay5 128#32 k0_pay6 k0_pay7 w105 w107 (I.k c), k0_pay13 (qV I c) iota70 k0_pay5 128#32 k0_pay6 k0_pay7 w105 w107 (I.k c) (I.v c),
              k0_pay15 (qV I c) iota70 k0_pay5 128#32 k0_pay6 k0_pay7 w105 w107 (I.k c), k0_pay16 (qV I c) iota70 k0_pay5 128#32 k0_pay6 k0_pay7 w105 w107 (I.k c), k0_pay17 (I.v c), zero64⟩))
      ⊢ wp frame (wpE (defs₀ (F := F)) 𝒱₀ c none) Set.univ (k0_part4 (F := F) xM (Memref.isWhole_whole _) wqM (Memref.isWhole_whole _) woM (Memref.isWhole_whole _) kM (Memref.isWhole_whole _) vM (Memref.isWhole_whole _) outM (Memref.isWhole_whole _) xsM (Memref.isWhole_whole _) wqsM (Memref.isWhole_whole _) wosM (Memref.isWhole_whole _) ksM (Memref.isWhole_whole _) vsM (Memref.isWhole_whole _) locM (Memref.isWhole_whole _) pM (Memref.isWhole_whole _) osM (Memref.isWhole_whole _) obM (Memref.isWhole_whole _) cc0_scratch9 cc0_scratch10 cc0_scratch11 cc0_scratch12 cc0_scratch13 (qV I c) iota70 k0_pay5 128#32 k0_pay6 k0_pay7 w105 w107) Kt := by
  simp only [k0_part4_eq_skeleton]; unfold k0_part4_skel
  simp only [semSignalWord, semWaitWord, Prog.lift, Prog.bind_op, Prog.bind_ret, Prog.pure_eq_ret]
  iintro ⟨⟨#HR, #Hlev, HO, C1, C2, P1, P2⟩, Hk⟩
  iapply (wait_dma I K c 3 (by decide) (Osnd1 c) 1 (lv_le c _ _ (by decide)) (above_Osnd1 c) (src := kM) (dst := ksM) rfl) $$ [HO C1 P1]
  · isplitr; · iexact HR
    isplitr; · iexact Hlev
    isplitl [HO]; · iexact HO
    isplitl [C1]; · iexact C1
    iexact P1
  iintro ⟨HO, P1, D1⟩
  iapply (wait_dma I K c 4 (by decide) (Osnd1 c) 1 (lv_le c _ _ (by decide)) (above_Osnd1 c) (src := vM) (dst := vsM) rfl) $$ [HO C2 P2]
  · isplitr; · iexact HR
    isplitr; · iexact Hlev
    isplitl [HO]; · iexact HO
    isplitl [C2]; · iexact C2
    iexact P2
  iintro ⟨HO, P2, D2⟩
  ihave D1' := (show dmaPay I c (3 : Fin 20).val ⊢ iprop(pt c cc0_scratch3 (I.k c) ∗ pt c main_v2 (I.k c)) from Entails.of_eq rfl) $$ D1
  ihave D2' := (show dmaPay I c (4 : Fin 20).val ⊢ iprop(pt c cc0_scratch4 (I.v c) ∗ pt c main_v3 (I.v c)) from Entails.of_eq rfl) $$ D2
  icases D1' with ⟨B1, A1⟩
  icases D2' with ⟨B2, A2⟩
  iapply (wp_load 𝒱₀ (c : Thread nD τ) none Set.univ (m := ksM) (S := Finset.univ) (Finset.subset_univ _)) $$ [B1]
  · iexact B1
  iintro B1
  iapply (wp_load 𝒱₀ (c : Thread nD τ) none Set.univ (m := vsM) (S := Finset.univ) (Finset.subset_univ _)) $$ [B2]
  · iexact B2
  iintro B2
  rw [wp_ret]
  imodintro
  rw [show View.readAt (Elt F) ksM.view (Rect.unit (s := S256x512) ![0, 0] S256x512.size inb_S256x512_S256x512_0_0).toLoadRect (I.k c) = I.k c from Memref.readAt_unit_zero (Elt F) cc0_scratch3 zero2 _ _,
    show View.readAt (Elt F) vsM.view (Rect.unit (s := S256x512) ![0, 0] S256x512.size inb_S256x512_S256x512_0_0).toLoadRect (I.v c) = I.v c from Memref.readAt_unit_zero (Elt F) cc0_scratch4 zero2 _ _]
  unfold maskV kbV vbV
  iapply Hk
  isplitl [HO]; · iexact HO
  isplitl [P1]; · iexact P1
  isplitl [P2]; · iexact P2
  isplitl [B1 A1]
  · isplitl [B1]; · iexact B1
    iexact A1
  isplitl [B2]; · iexact B2
  iexact A2

/-- The payloads of the next heads. -/
theorem part5_run (c : Dev nD) (Kt : (Σ' (v153 : FVec F S256x64 .bf16) (v161 : FVec F S256x1 .bf16) (v165 : FVec F S256x64 .bf16) (v173 : FVec F S256x1 .bf16) (v177 : FVec F S256x64 .bf16) (v185 : FVec F S256x1 .bf16) (v189 : FVec F S256x64 .bf16) (v197 : FVec F S256x1 .bf16) (v198 : FVec F S256x256 .bf16) (v199 : FVec F S256x64 .bf16), FVec F S256x64 .f32) → sProp 𝕄) :
    Kt ⟨k0_pay18 (k0_pay16 (qV I c) iota70 k0_pay5 128#32 k0_pay6 k0_pay7 w105 w107 (I.k c)) (k0_pay17 (I.v c)) zero64, k0_pay20 (qV I c) maskV (kbV I c), k0_pay21 (qV I c) maskV (kbV I c) (vbV I c), k0_pay23 (qV I c) maskV (kbV I c), k0_pay24 (qV I c) maskV (kbV I c) (vbV I c), k0_pay26 (qV I c) maskV (kbV I c), k0_pay27 (qV I c) maskV (kbV I c) (vbV I c), k0_pay29 (qV I c) maskV (kbV I c), k0_pay30 (qV I c) maskV (kbV I c), k0_pay31 (vbV I c), zero64⟩
      ⊢ wp frame (wpE (defs₀ (F := F)) 𝒱₀ c none) Set.univ (k0_part5 (F := F) xM (Memref.isWhole_whole _) wqM (Memref.isWhole_whole _) woM (Memref.isWhole_whole _) kM (Memref.isWhole_whole _) vM (Memref.isWhole_whole _) outM (Memref.isWhole_whole _) xsM (Memref.isWhole_whole _) wqsM (Memref.isWhole_whole _) wosM (Memref.isWhole_whole _) ksM (Memref.isWhole_whole _) vsM (Memref.isWhole_whole _) locM (Memref.isWhole_whole _) pM (Memref.isWhole_whole _) osM (Memref.isWhole_whole _) obM (Memref.isWhole_whole _) cc0_scratch9 cc0_scratch10 cc0_scratch11 cc0_scratch12 cc0_scratch13 (qV I c) maskV (kbV I c) (vbV I c) (k0_pay16 (qV I c) iota70 k0_pay5 128#32 k0_pay6 k0_pay7 w105 w107 (I.k c)) (k0_pay17 (I.v c)) zero64) Kt := by
  simp only [k0_part5_eq_skeleton]; unfold k0_part5_skel
  simp only [semSignalWord, semWaitWord, Prog.lift, Prog.bind_op, Prog.bind_ret, Prog.pure_eq_ret]
  iintro H
  rw [wp_ret]
  imodintro
  iexact H

/-- The partial result is stored, and the peers' slots are had. -/
theorem part6_run (K : GSem nD τ sig → ℕ) (c : Dev nD) (f : (cc0_scratch5 : Ref sig .tc).ty.Contents (Elt F)) (v2 : BitVec 32)
    (Kt : (Σ' (v236 : BitVec 32) (v237 : BitVec 32) (v238 : BitVec 1), BitVec 32) → sProp 𝕄) :
    iprop((recs I K ∗ levAts L lv ∗ owesX c (Osnd1 c) ∗ cred (tallyAt (barCell c) () 3) ∗ atPos ER (barCell c) 0 ∅ 0
        ∗ pt c cc0_scratch5 ((locM.access (Rect.unit (s := S256x640) ![0, 512] S256x128.size inb_S256x640_S256x128_0_512)).write (Elt F) f k0_pay4 Finset.univ))
      ∗ ((owesX c (Osnd1 c) ∗ atPos ER (barCell c) 1 ∅ 0 ∗ pt c cc0_scratch5 (locV I c)
            ∗ (slotAt1 c 1 ∗ slotAt2 c 1) ∗ (slotAt1 c 2 ∗ slotAt2 c 2) ∗ (slotAt1 c 3 ∗ slotAt2 c 3))
          -∗ ∀ r, Kt r))
      ⊢ wp frame (wpE (defs₀ (F := F)) 𝒱₀ c none) Set.univ (k0_part6 (F := F) xM (Memref.isWhole_whole _) wqM (Memref.isWhole_whole _) woM (Memref.isWhole_whole _) kM (Memref.isWhole_whole _) vM (Memref.isWhole_whole _) outM (Memref.isWhole_whole _) xsM (Memref.isWhole_whole _) wqsM (Memref.isWhole_whole _) wosM (Memref.isWhole_whole _) ksM (Memref.isWhole_whole _) vsM (Memref.isWhole_whole _) locM (Memref.isWhole_whole _) pM (Memref.isWhole_whole _) osM (Memref.isWhole_whole _) obM (Memref.isWhole_whole _) cc0_scratch9 cc0_scratch10 cc0_scratch11 cc0_scratch12 cc0_scratch13 v2 (SemArray.scalar (sig.barrier 0 rfl)) (qV I c) maskV (kbV I c) (vbV I c) (k0_pay12 (qV I c) iota70 k0_pay5 128#32 k0_pay6 k0_pay7 w105 w107 (I.k c)) (k0_pay13 (qV I c) iota70 k0_pay5 128#32 k0_pay6 k0_pay7 w105 w107 (I.k c) (I.v c)) (k0_pay15 (qV I c) iota70 k0_pay5 128#32 k0_pay6 k0_pay7 w105 w107 (I.k c)) (k0_pay18 (k0_pay16 (qV I c) iota70 k0_pay5 128#32 k0_pay6 k0_pay7 w105 w107 (I.k c)) (k0_pay17 (I.v c)) zero64) (k0_pay20 (qV I c) maskV (kbV I c)) (k0_pay21 (qV I c) maskV (kbV I c) (vbV I c)) (k0_pay23 (qV I c) maskV (kbV I c)) (k0_pay24 (qV I c) maskV (kbV I c) (vbV I c)) (k0_pay26 (qV I c) maskV (kbV I c)) (k0_pay27 (qV I c) maskV (kbV I c) (vbV I c)) (k0_pay29 (qV I c) maskV (kbV I c)) (k0_pay30 (qV I c) maskV (kbV I c)) (k0_pay31 (vbV I c)) zero64) Kt := by
  simp only [k0_part6_eq_skeleton]; unfold k0_part6_skel
  simp only [semSignalWord, semWaitWord, Prog.lift, Prog.bind_op, Prog.bind_ret, Prog.pure_eq_ret]
  iintro ⟨⟨#HR, #Hlev, HO, C, P, H⟩, Hk⟩
  iapply (wp_load 𝒱₀ (c : Thread nD τ) none Set.univ (m := locM) (S := Finset.univ) (Finset.subset_univ _)) $$ [H]
  · iexact H
  iintro H
  iapply (wp_store 𝒱₀ (c : Thread nD τ) none Set.univ (m := locM) (S := Finset.univ) (Finset.subset_univ _)) $$ [H]
  · iexact H
  iintro H
  iapply (wp_load 𝒱₀ (c : Thread nD τ) none Set.univ (m := locM) (S := Finset.univ) (Finset.subset_univ _)) $$ [H]
  · iexact H
  iintro H
  iapply (wp_store 𝒱₀ (c : Thread nD τ) none Set.univ (m := locM) (S := Finset.univ) (Finset.subset_univ _)) $$ [H]
  · iexact H
  iintro H
  iapply (wait_bar I K c) $$ [HO C P]
  · isplitr; · iexact HR
    isplitr; · iexact Hlev
    isplitl [HO]; · iexact HO
    isplitl [C]; · iexact C
    iexact P
  iintro ⟨HO, P, B1, B2, B3⟩
  ihave B1 := barPay_split c 1 $$ B1
  ihave B2 := barPay_split c 2 $$ B2
  ihave B3 := barPay_split c 3 $$ B3
  rw [wp_ret]
  imodintro
  have e := loc_stores I c f inb_S256x640_S256x128_0_512 inb_S256x640_S256x512_0_0 inb_S256x640_S256x8_0_512
  unfold locA locB at e
  ihave H' := (Entails.of_eq (congrArg (pt c cc0_scratch5) e)) $$ H
  iapply Hk $$ [HO P H' B1 B2 B3]
  isplitl [HO]; · iexact HO
  isplitl [P]; · iexact P
  isplitl [H']; · iexact H'
  isplitl [B1]; · iexact B1
  isplitl [B2]; · iexact B2
  iexact B3

end Cert.KernelIdeal.Attn

end
-- ==== Proof.Body2.lean ====
/-
  The first exchange, part by part: the three copies of the partial result's quarters, their waits, and the own quarter of
  the result.
-/
module

public import proofs.«01_k».proof.Proof.Body1

@[expose] public section

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] (I : Ins F)

local notation "𝕄" => MT nD τ sig Unit (Elt F) ℕ UU ℕ

/-- What the copy of the first exchange at distance `d` takes besides the quarter it reads. -/
abbrev snd1Res (c : Dev nD) (d : Fin 4) : sProp 𝕄 :=
  iprop(slotAt1 (F := F) c d ∗ tok (F := F) c (s1 d) ∗ rch (F := F) c (s1 d) ∗ tok (F := F) (rot c d) (r1 (opp d)))
/-- What the copy of the second exchange at distance `d` takes besides the share it reads at. -/
abbrev snd2Res (c : Dev nD) (d : Fin 4) : sProp 𝕄 :=
  iprop(slotAt2 (F := F) c d ∗ tok (F := F) c (s2 d) ∗ rch (F := F) c (s2 d) ∗ tok (F := F) (rot c d) (r2 (opp d)))
/-- The six parts of the own quarter's sum that are carried on. -/
abbrev accR (c : Dev nD) : (Σ' (v348 : FVec F S64x640 .f32) (v351 : FVec F S64x8 .f32) (v356 : FVec F S64x64 .bf16) (v361 : FVec F S64x64 .bf16) (v366 : FVec F S64x64 .bf16), FVec F S64x64 .f32) :=
  ⟨k0_pay36 (ownRows I c) (pslot I c 1) (pslot I c 2) (pslot I c 3), k0_pay37 (ownRows I c) (pslot I c 1) (pslot I c 2) (pslot I c 3), k0_pay38 (ownRows I c) (pslot I c 1) (pslot I c 2) (pslot I c 3), k0_pay39 (ownRows I c) (pslot I c 1) (pslot I c 2) (pslot I c 3), k0_pay40 (ownRows I c) (pslot I c 1) (pslot I c 2) (pslot I c 3), k0_pay41 (ownRows I c) (pslot I c 1) (pslot I c 2) (pslot I c 3)⟩

/-- The copy to the next device. -/
theorem part7_run (K : GSem nD τ sig → ℕ) (c : Dev nD) (v2 v236 v237 : BitVec 32) (v238 : BitVec 1) (c0 : BitVec 32)
    (Kt : (Σ' (v244 : BitVec 32), BitVec 32) → sProp 𝕄) :
    iprop((recs I K ∗ owesX c (Osnd1 c) ∗ ptS c cc0_scratch5 (rowsQ (rot c 1)) (locV I c) ∗ snd1Res c 1)
      ∗ ((crd c (s1 1) ∗ owesX c (Osnd2 c + T1 c 3 + T1 c 2)) -∗ ∀ r, Kt r))
      ⊢ wp frame (wpE (defs₀ (F := F)) 𝒱₀ c none) Set.univ (k0_part7 (F := F) xM (Memref.isWhole_whole _) wqM (Memref.isWhole_whole _) woM (Memref.isWhole_whole _) kM (Memref.isWhole_whole _) vM (Memref.isWhole_whole _) outM (Memref.isWhole_whole _) xsM (Memref.isWhole_whole _) wqsM (Memref.isWhole_whole _) wosM (Memref.isWhole_whole _) ksM (Memref.isWhole_whole _) vsM (Memref.isWhole_whole _) locM (Memref.isWhole_whole _) pM (Memref.isWhole_whole _) osM (Memref.isWhole_whole _) obM (Memref.isWhole_whole _) cc0_scratch9 cc0_scratch10 cc0_scratch11 cc0_scratch12 cc0_scratch13 c v2 v236 v237 v238 c0) Kt := by
  simp only [k0_part7_eq_skeleton]; unfold k0_part7_skel
  simp only [semSignalWord, semWaitWord, Prog.lift, Prog.bind_op, Prog.bind_ret, Prog.pure_eq_ret]
  unfold snd1Res
  iintro ⟨⟨#HR, HO, L1, S1a, S1b, S1c, S1d⟩, Hk⟩
  iapply (send1 I K c ⟨k0_dev4 c, k0_dev4_lt c⟩ 1 (by decide) (dev4_eq c) _ _ (by decide) (by decide) (Osnd2 c + T1 c 3 + T1 c 2) (k0_off1_inb c 0) (off1_eq c 0) inb_S4x64x640_S1x64x640_3_0_0 rfl) $$ [HO L1 S1a S1b S1c S1d]
  · isplitr; · iexact HR
    isplitl [HO]; · iexact HO
    isplitl [L1]; · iexact L1
    isplitl [S1a]; · iexact S1a
    isplitl [S1b]; · iexact S1b
    isplitl [S1c]; · iexact S1c
    iexact S1d
  iintro ⟨C1, HO⟩
  rw [wp_ret]
  imodintro
  iapply Hk $$ [C1 HO]
  isplitl [C1]; · iexact C1
  iexact HO

/-- The two other copies, and the first one's departure. -/
theorem part8_run (K : GSem nD τ sig → ℕ) (c : Dev nD) (v2 : BitVec 32)
    (Kt : (Σ' (v286 : BitVec 32), BitVec 32) → sProp 𝕄) :
    iprop((recs I K ∗ levAts L lv ∗ owesX c (Osnd2 c + T1 c 3 + T1 c 2) ∗ (ptS c cc0_scratch5 (rowsQ (rot c 2)) (locV I c) ∗ snd1Res c 2) ∗ (ptS c cc0_scratch5 (rowsQ (rot c 3)) (locV I c) ∗ snd1Res c 3) ∗ crd c (s1 1) ∗ at0 c (s1 1))
      ∗ ((owesX c (Osnd2 c) ∗ crd c (s1 2) ∗ crd c (s1 3) ∗ at1 c (s1 1) ∗ ptS c cc0_scratch5 (rowsQ (rot c 1)) (locV I c)) -∗ ∀ r, Kt r))
      ⊢ wp frame (wpE (defs₀ (F := F)) 𝒱₀ c none) Set.univ (k0_part8 (F := F) xM (Memref.isWhole_whole _) wqM (Memref.isWhole_whole _) woM (Memref.isWhole_whole _) kM (Memref.isWhole_whole _) vM (Memref.isWhole_whole _) outM (Memref.isWhole_whole _) xsM (Memref.isWhole_whole _) wqsM (Memref.isWhole_whole _) wosM (Memref.isWhole_whole _) ksM (Memref.isWhole_whole _) vsM (Memref.isWhole_whole _) locM (Memref.isWhole_whole _) pM (Memref.isWhole_whole _) osM (Memref.isWhole_whole _) obM (Memref.isWhole_whole _) cc0_scratch9 cc0_scratch10 cc0_scratch11 cc0_scratch12 cc0_scratch13 c v2) Kt := by
  simp only [k0_part8_eq_skeleton]; unfold k0_part8_skel
  simp only [semSignalWord, semWaitWord, Prog.lift, Prog.bind_op, Prog.bind_ret, Prog.pure_eq_ret]
  unfold snd1Res
  iintro ⟨⟨#HR, #Hlev, HO, ⟨L2, S2a, S2b, S2c, S2d⟩, ⟨L3, S3a, S3b, S3c, S3d⟩, C1, P1⟩, Hk⟩
  iapply (send1 I K c ⟨k0_dev5 c, k0_dev5_lt c⟩ 2 (by decide) (dev5_eq c) _ _ (by decide) (by decide) (Osnd2 c + T1 c 3) (k0_off1_inb c 1) (off1_eq c 1) inb_S4x64x640_S1x64x640_2_0_0 rfl) $$ [HO L2 S2a S2b S2c S2d]
  · isplitr; · iexact HR
    isplitl [HO]; · iexact HO
    isplitl [L2]; · iexact L2
    isplitl [S2a]; · iexact S2a
    isplitl [S2b]; · iexact S2b
    isplitl [S2c]; · iexact S2c
    iexact S2d
  iintro ⟨C2, HO⟩
  iapply (send1 I K c ⟨k0_dev6 c, k0_dev6_lt c⟩ 3 (by decide) (dev6_eq c) _ _ (by decide) (by decide) (Osnd2 c) (k0_off1_inb c 2) (off1_eq c 2) inb_S4x64x640_S1x64x640_1_0_0 rfl) $$ [HO L3 S3a S3b S3c S3d]
  · isplitr; · iexact HR
    isplitl [HO]; · iexact HO
    isplitl [L3]; · iexact L3
    isplitl [S3a]; · iexact S3a
    isplitl [S3b]; · iexact S3b
    isplitl [S3c]; · iexact S3c
    iexact S3d
  iintro ⟨C3, HO⟩
  iapply (wait_dma I K c (s1 1) (by decide) (Osnd2 c) 2 (lv_le c _ _ (by decide)) (above_Osnd2 c) (src := (pSl ![3, 0, 0] inb_S4x64x640_S1x64x640_3_0_0)) (dst := (locSl (k0_off1 c 1#32) (k0_off1_inb c 0))) rfl) $$ [HO C1 P1]
  · isplitr; · iexact HR
    isplitr; · iexact Hlev
    isplitl [HO]; · iexact HO
    isplitl [C1]; · iexact C1
    iexact P1
  iintro ⟨HO, P1, D1⟩
  ihave D1 := (Entails.of_eq (dmaPay_s1 I c 1 (by decide))) $$ D1
  rw [wp_ret]
  imodintro
  iapply Hk $$ [HO C2 C3 P1 D1]
  isplitl [HO]; · iexact HO
  isplitl [C2]; · iexact C2
  isplitl [C3]; · iexact C3
  isplitl [P1]; · iexact P1
  iexact D1

/-- The slots of two peers land, and the two other copies depart. -/
theorem part9_run (K : GSem nD τ sig → ℕ) (c : Dev nD) (v244 v265 v286 c1 : BitVec 32)
    (Kt : (Σ' (v326 : BitVec 32), BitVec 32) → sProp 𝕄) :
    iprop((recs I K ∗ levAts L lv ∗ owesX c (Osnd2 c) ∗ (crd c (r1 3) ∗ at0 c (r1 3)) ∗ (crd c (s1 2) ∗ at0 c (s1 2)) ∗ (crd c (r1 2) ∗ at0 c (r1 2)) ∗ (crd c (s1 3) ∗ at0 c (s1 3)))
      ∗ ((owesX c (Osnd2 c) ∗ (at1 c (r1 3) ∗ ptS c cc0_scratch6 (slotP 3) (pbufV I c)) ∗ (at1 c (s1 2) ∗ ptS c cc0_scratch5 (rowsQ (rot c 2)) (locV I c)) ∗ (at1 c (r1 2) ∗ ptS c cc0_scratch6 (slotP 2) (pbufV I c)) ∗ (at1 c (s1 3) ∗ ptS c cc0_scratch5 (rowsQ (rot c 3)) (locV I c))) -∗ ∀ r, Kt r))
      ⊢ wp frame (wpE (defs₀ (F := F)) 𝒱₀ c none) Set.univ (k0_part9 (F := F) xM (Memref.isWhole_whole _) wqM (Memref.isWhole_whole _) woM (Memref.isWhole_whole _) kM (Memref.isWhole_whole _) vM (Memref.isWhole_whole _) outM (Memref.isWhole_whole _) xsM (Memref.isWhole_whole _) wqsM (Memref.isWhole_whole _) wosM (Memref.isWhole_whole _) ksM (Memref.isWhole_whole _) vsM (Memref.isWhole_whole _) locM (Memref.isWhole_whole _) pM (Memref.isWhole_whole _) osM (Memref.isWhole_whole _) obM (Memref.isWhole_whole _) cc0_scratch9 cc0_scratch10 cc0_scratch11 cc0_scratch12 cc0_scratch13 c v244 v265 v286 c1) Kt := by
  simp only [k0_part9_eq_skeleton]; unfold k0_part9_skel
  simp only [semSignalWord, semWaitWord, Prog.lift, Prog.bind_op, Prog.bind_ret, Prog.pure_eq_ret]
  iintro ⟨⟨#HR, #Hlev, HO, ⟨C1, P1⟩, ⟨C2, P2⟩, ⟨C3, P3⟩, ⟨C4, P4⟩⟩, Hk⟩
  iapply (wait_dma I K c (r1 3) (by decide) (Osnd2 c) 2 (lv_le c _ _ (by decide)) (above_Osnd2 c) (src := (locSl (k0_off1 c 1#32) (k0_off1_inb c 0))) (dst := (pSl ![3, 0, 0] inb_S4x64x640_S1x64x640_3_0_0)) rfl) $$ [HO C1 P1]
  · isplitr; · iexact HR
    isplitr; · iexact Hlev
    isplitl [HO]; · iexact HO
    isplitl [C1]; · iexact C1
    iexact P1
  iintro ⟨HO, P1, D1⟩
  ihave D1 := (Entails.of_eq (dmaPay_r1 I c 3)) $$ D1
  iapply (wait_dma I K c (s1 2) (by decide) (Osnd2 c) 2 (lv_le c _ _ (by decide)) (above_Osnd2 c) (src := (pSl ![2, 0, 0] inb_S4x64x640_S1x64x640_2_0_0)) (dst := (locSl (k0_off1 c 2#32) (k0_off1_inb c 1))) rfl) $$ [HO C2 P2]
  · isplitr; · iexact HR
    isplitr; · iexact Hlev
    isplitl [HO]; · iexact HO
    isplitl [C2]; · iexact C2
    iexact P2
  iintro ⟨HO, P2, D2⟩
  ihave D2 := (Entails.of_eq (dmaPay_s1 I c 2 (by decide))) $$ D2
  iapply (wait_dma I K c (r1 2) (by decide) (Osnd2 c) 2 (lv_le c _ _ (by decide)) (above_Osnd2 c) (src := (locSl (k0_off1 c 2#32) (k0_off1_inb c 1))) (dst := (pSl ![2, 0, 0] inb_S4x64x640_S1x64x640_2_0_0)) rfl) $$ [HO C3 P3]
  · isplitr; · iexact HR
    isplitr; · iexact Hlev
    isplitl [HO]; · iexact HO
    isplitl [C3]; · iexact C3
    iexact P3
  iintro ⟨HO, P3, D3⟩
  ihave D3 := (Entails.of_eq (dmaPay_r1 I c 2)) $$ D3
  iapply (wait_dma I K c (s1 3) (by decide) (Osnd2 c) 2 (lv_le c _ _ (by decide)) (above_Osnd2 c) (src := (pSl ![1, 0, 0] inb_S4x64x640_S1x64x640_1_0_0)) (dst := (locSl (k0_off1 c 3#32) (k0_off1_inb c 2))) rfl) $$ [HO C4 P4]
  · isplitr; · iexact HR
    isplitr; · iexact Hlev
    isplitl [HO]; · iexact HO
    isplitl [C4]; · iexact C4
    iexact P4
  iintro ⟨HO, P4, D4⟩
  ihave D4 := (Entails.of_eq (dmaPay_s1 I c 3 (by decide))) $$ D4
  rw [wp_ret]
  imodintro
  iapply Hk $$ [HO P1 P2 P3 P4 D1 D2 D3 D4]
  isplitl [HO]; · iexact HO
  isplitl [P1 D1]
  · isplitl [P1]; · iexact P1
    iexact D1
  isplitl [P2 D2]
  · isplitl [P2]; · iexact P2
    iexact D2
  isplitl [P3 D3]
  · isplitl [P3]; · iexact P3
    iexact D3
  isplitl [P4]; · iexact P4
  iexact D4

/-- The last slot lands, and the four quarters are read. -/
theorem part10_run (K : GSem nD τ sig → ℕ) (c : Dev nD) (v2 v326 c0 : BitVec 32)
    (Kt : (Σ' (v348 : FVec F S64x640 .f32) (v351 : FVec F S64x8 .f32) (v356 : FVec F S64x64 .bf16) (v361 : FVec F S64x64 .bf16) (v366 : FVec F S64x64 .bf16), FVec F S64x64 .f32) → sProp 𝕄) :
    iprop((recs I K ∗ levAts L lv ∗ owesX c (Osnd2 c) ∗ (crd c (r1 1) ∗ at0 c (r1 1)) ∗ ptS c cc0_scratch5 (rowsQ c) (locV I c) ∗ ptS c cc0_scratch6 (slotP 2) (pbufV I c) ∗ ptS c cc0_scratch6 (slotP 3) (pbufV I c))
      ∗ ((owesX c (Osnd2 c) ∗ at1 c (r1 1) ∗ ptS c cc0_scratch5 (rowsQ c) (locV I c) ∗ ptS c cc0_scratch6 (slotP 1) (pbufV I c) ∗ ptS c cc0_scratch6 (slotP 2) (pbufV I c) ∗ ptS c cc0_scratch6 (slotP 3) (pbufV I c)) -∗ Kt (accR I c)))
      ⊢ wp frame (wpE (defs₀ (F := F)) 𝒱₀ c none) Set.univ (k0_part10 (F := F) xM (Memref.isWhole_whole _) wqM (Memref.isWhole_whole _) woM (Memref.isWhole_whole _) kM (Memref.isWhole_whole _) vM (Memref.isWhole_whole _) outM (Memref.isWhole_whole _) xsM (Memref.isWhole_whole _) wqsM (Memref.isWhole_whole _) wosM (Memref.isWhole_whole _) ksM (Memref.isWhole_whole _) vsM (Memref.isWhole_whole _) locM (Memref.isWhole_whole _) pM (Memref.isWhole_whole _) osM (Memref.isWhole_whole _) obM (Memref.isWhole_whole _) cc0_scratch9 cc0_scratch10 cc0_scratch11 cc0_scratch12 cc0_scratch13 c v2 v326 c0) Kt := by
  simp only [k0_part10_eq_skeleton]; unfold k0_part10_skel
  simp only [semSignalWord, semWaitWord, Prog.lift, Prog.bind_op, Prog.bind_ret, Prog.pure_eq_ret]
  iintro ⟨⟨#HR, #Hlev, HO, ⟨C1, P1⟩, H0, H2, H3⟩, Hk⟩
  iapply (wait_dma I K c (r1 1) (by decide) (Osnd2 c) 2 (lv_le c _ _ (by decide)) (above_Osnd2 c) (src := (locSl (k0_off1 c 3#32) (k0_off1_inb c 2))) (dst := (pSl ![1, 0, 0] inb_S4x64x640_S1x64x640_1_0_0)) rfl) $$ [HO C1 P1]
  · isplitr; · iexact HR
    isplitr; · iexact Hlev
    isplitl [HO]; · iexact HO
    isplitl [C1]; · iexact C1
    iexact P1
  iintro ⟨HO, P1, H1⟩
  ihave H1 := (Entails.of_eq (dmaPay_r1 I c 1)) $$ H1
  iapply (wp_load_rect 𝒱₀ (c : Thread nD τ) none Set.univ (m := locM) (r := Rect.unit (s := S256x640) (k0_off2 c) S64x640.size (k0_off2_inb c)) (own_set c (k0_off2_inb c) (k0_off2_eq c))) $$ [H0]
  · iexact H0
  iintro H0
  iapply (wp_load_rect 𝒱₀ (c : Thread nD τ) none Set.univ (m := pM) (r := Rect.unit (s := S4x64x640) ![1, 0, 0] S1x64x640.size inb_S4x64x640_S1x64x640_1_0_0) (pslot_set 1 inb_S4x64x640_S1x64x640_1_0_0 rfl)) $$ [H1]
  · iexact H1
  iintro H1
  iapply (wp_load_rect 𝒱₀ (c : Thread nD τ) none Set.univ (m := pM) (r := Rect.unit (s := S4x64x640) ![2, 0, 0] S1x64x640.size inb_S4x64x640_S1x64x640_2_0_0) (pslot_set 2 inb_S4x64x640_S1x64x640_2_0_0 rfl)) $$ [H2]
  · iexact H2
  iintro H2
  iapply (wp_load_rect 𝒱₀ (c : Thread nD τ) none Set.univ (m := pM) (r := Rect.unit (s := S4x64x640) ![3, 0, 0] S1x64x640.size inb_S4x64x640_S1x64x640_3_0_0) (pslot_set 3 inb_S4x64x640_S1x64x640_3_0_0 rfl)) $$ [H3]
  · iexact H3
  iintro H3
  rw [wp_ret]
  imodintro
  rw [read_own I c (k0_off2_inb c) (k0_off2_eq c), read_pslot I c 1 inb_S4x64x640_S1x64x640_1_0_0 rfl, read_pslot I c 2 inb_S4x64x640_S1x64x640_2_0_0 rfl, read_pslot I c 3 inb_S4x64x640_S1x64x640_3_0_0 rfl]
  iapply Hk
  isplitl [HO]; · iexact HO
  isplitl [P1]; · iexact P1
  isplitl [H0]; · iexact H0
  isplitl [H1]; · iexact H1
  isplitl [H2]; · iexact H2
  iexact H3

/-- The own quarter of the result is stored, and its narrowed copy. -/
theorem part11_run (K : GSem nD τ sig → ℕ) (c : Dev nD) (f : (cc0_stg0_0 : Ref sig .tc).ty.Contents (Elt F)) (v2 : BitVec 32)
    (Kt : (Σ' (v407 : BitVec 32) (v408 : BitVec 32) (v409 : BitVec 1), BitVec 1) → sProp 𝕄) :
    iprop((recs I K ∗ levAts L lv ∗ owesX c (Osnd2 c) ∗ (crd c 5 ∗ at0 c 5) ∗ pt c cc0_stg0_0 f ∗ (∃ g, pt (F := F) c cc0_scratch7 g))
      ∗ ((owesX c (Osnd2 c) ∗ at1 c 5 ∗ (pt c cc0_scratch2 (I.wo c) ∗ pt c main_arg2 (I.wo c))
            ∗ pt c cc0_stg0_0 ((outM.access (Rect.unit (s := S256x512) (k0_off3 c) S64x512.size (k0_off3_inb c))).write (Elt F) f (outOwn I c) Finset.univ)
            ∗ pt c cc0_scratch7 (osendV I c)) -∗ ∀ r, Kt r))
      ⊢ wp frame (wpE (defs₀ (F := F)) 𝒱₀ c none) Set.univ (k0_part11 (F := F) xM (Memref.isWhole_whole _) wqM (Memref.isWhole_whole _) woM (Memref.isWhole_whole _) kM (Memref.isWhole_whole _) vM (Memref.isWhole_whole _) outM (Memref.isWhole_whole _) xsM (Memref.isWhole_whole _) wqsM (Memref.isWhole_whole _) wosM (Memref.isWhole_whole _) ksM (Memref.isWhole_whole _) vsM (Memref.isWhole_whole _) locM (Memref.isWhole_whole _) pM (Memref.isWhole_whole _) osM (Memref.isWhole_whole _) obM (Memref.isWhole_whole _) cc0_scratch9 cc0_scratch10 cc0_scratch11 cc0_scratch12 cc0_scratch13 c v2 (k0_pay36 (ownRows I c) (pslot I c 1) (pslot I c 2) (pslot I c 3)) (k0_pay37 (ownRows I c) (pslot I c 1) (pslot I c 2) (pslot I c 3)) (k0_pay38 (ownRows I c) (pslot I c 1) (pslot I c 2) (pslot I c 3)) (k0_pay39 (ownRows I c) (pslot I c 1) (pslot I c 2) (pslot I c 3)) (k0_pay40 (ownRows I c) (pslot I c 1) (pslot I c 2) (pslot I c 3)) (k0_pay41 (ownRows I c) (pslot I c 1) (pslot I c 2) (pslot I c 3))) Kt := by
  simp only [k0_part11_eq_skeleton]; unfold k0_part11_skel
  simp only [semSignalWord, semWaitWord, Prog.lift, Prog.bind_op, Prog.bind_ret, Prog.pure_eq_ret]
  iintro ⟨⟨#HR, #Hlev, HO, ⟨C1, P1⟩, Ho, ⟨%g, Hs⟩⟩, Hk⟩
  iapply (wait_dma I K c 5 (by decide) (Osnd2 c) 2 (lv_le c _ _ (by decide)) (above_Osnd2 c) (src := woM) (dst := wosM) rfl) $$ [HO C1 P1]
  · isplitr; · iexact HR
    isplitr; · iexact Hlev
    isplitl [HO]; · iexact HO
    isplitl [C1]; · iexact C1
    iexact P1
  iintro ⟨HO, P1, D1⟩
  ihave D1' := (show dmaPay I c (5 : Fin 20).val ⊢ iprop(pt c cc0_scratch2 (I.wo c) ∗ pt c main_arg2 (I.wo c)) from Entails.of_eq rfl) $$ D1
  icases D1' with ⟨B1, A1⟩
  iapply (wp_load 𝒱₀ (c : Thread nD τ) none Set.univ (m := wosM) (S := Finset.univ) (Finset.subset_univ _)) $$ [B1]
  · iexact B1
  iintro B1
  iapply (wp_load 𝒱₀ (c : Thread nD τ) none Set.univ (m := outM) (S := Finset.univ) (Finset.subset_univ _)) $$ [Ho]
  · iexact Ho
  iintro Ho
  iapply (wp_store 𝒱₀ (c : Thread nD τ) none Set.univ (m := outM) (S := Finset.univ) (Finset.subset_univ _)) $$ [Ho]
  · iexact Ho
  iintro Ho
  iapply (wp_load 𝒱₀ (c : Thread nD τ) none Set.univ (m := osM) (S := Finset.univ) (Finset.subset_univ _)) $$ [Hs]
  · iexact Hs
  iintro Hs
  iapply (wp_store 𝒱₀ (c : Thread nD τ) none Set.univ (m := osM) (S := Finset.univ) (Finset.subset_univ _)) $$ [Hs]
  · iexact Hs
  iintro Hs
  rw [wp_ret]
  imodintro
  rw [show View.readAt (Elt F) wosM.view (Rect.unit (s := S512x512) ![0, 0] S512x512.size inb_S512x512_S512x512_0_0).toLoadRect (I.wo c) = I.wo c from Memref.readAt_unit_zero (Elt F) cc0_scratch2 zero2 _ _]
  have e := fun w => (Memref.write_access_unit_zero_univ (Elt F) cc0_scratch7 zero2 inb_S64x512_S64x512_0_0 g w)
  ihave Hs' := (Entails.of_eq (congrArg (pt c cc0_scratch7) (e (osendV I c)))) $$ [Hs]
  · unfold osendV; iexact Hs
  unfold outOwn
  iapply Hk $$ [HO P1 B1 A1 Ho Hs']
  isplitl [HO]; · iexact HO
  isplitl [P1]; · iexact P1
  isplitl [B1 A1]
  · isplitl [B1]; · iexact B1
    iexact A1
  isplitl [Ho]; · iexact Ho
  iexact Hs'

end Cert.KernelIdeal.Attn

end
-- ==== Proof.Body3.lean ====
/-
  The second exchange, part by part: the three copies of the own quarter, their waits, and the quarters as they landed
  stored in the result.
-/
module

public import proofs.«01_k».proof.Proof.Body2

@[expose] public section

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] (I : Ins F)

local notation "𝕄" => MT nD τ sig Unit (Elt F) ℕ UU ℕ

/-- The copies to the next device and to the one after. -/
theorem part12_run (K : GSem nD τ sig → ℕ) (c : Dev nD) (v2 v407 v408 : BitVec 32) (v409 v412 : BitVec 1)
    (Kt : (Σ' (v415 : BitVec 32) (v434 : BitVec 32) (v443 : BitVec 32), BitVec 32) → sProp 𝕄) :
    iprop((recs I K ∗ owesX c (Osnd2 c) ∗ (ptq c cc0_scratch7 (shr 1) (osendV I c) ∗ snd2Res c 1) ∗ (ptq c cc0_scratch7 (shr 2) (osendV I c) ∗ snd2Res c 2))
      ∗ ((crd c (s2 1) ∗ crd c (s2 2) ∗ owesX c (0 + T2 c 3)) -∗ ∀ r, Kt r))
      ⊢ wp frame (wpE (defs₀ (F := F)) 𝒱₀ c none) Set.univ (k0_part12 (F := F) xM (Memref.isWhole_whole _) wqM (Memref.isWhole_whole _) woM (Memref.isWhole_whole _) kM (Memref.isWhole_whole _) vM (Memref.isWhole_whole _) outM (Memref.isWhole_whole _) xsM (Memref.isWhole_whole _) wqsM (Memref.isWhole_whole _) wosM (Memref.isWhole_whole _) ksM (Memref.isWhole_whole _) vsM (Memref.isWhole_whole _) locM (Memref.isWhole_whole _) pM (Memref.isWhole_whole _) osM (Memref.isWhole_whole _) obM (Memref.isWhole_whole _) cc0_scratch9 cc0_scratch10 cc0_scratch11 cc0_scratch12 cc0_scratch13 c v2 v407 v408 v409 v412) Kt := by
  simp only [k0_part12_eq_skeleton]; unfold k0_part12_skel
  simp only [semSignalWord, semWaitWord, Prog.lift, Prog.bind_op, Prog.bind_ret, Prog.pure_eq_ret]
  unfold snd2Res
  iintro ⟨⟨#HR, HO, ⟨L1, S1a, S1b, S1c, S1d⟩, ⟨L2, S2a, S2b, S2c, S2d⟩⟩, Hk⟩
  iapply (send2 I K c ⟨k0_dev7 c, k0_dev7_lt c⟩ 1 (by decide) (dev7_eq c) _ _ (by decide) (by decide) (0 + T2 c 3 + T2 c 2) inb_S4x64x512_S1x64x512_3_0_0 rfl) $$ [HO L1 S1a S1b S1c S1d]
  · isplitr; · iexact HR
    isplitl [HO]; · iexact HO
    isplitl [L1]; · iexact L1
    isplitl [S1a]; · iexact S1a
    isplitl [S1b]; · iexact S1b
    isplitl [S1c]; · iexact S1c
    iexact S1d
  iintro ⟨C1, HO⟩
  iapply (send2 I K c ⟨k0_dev8 c, k0_dev8_lt c⟩ 2 (by decide) (dev8_eq c) _ _ (by decide) (by decide) (0 + T2 c 3) inb_S4x64x512_S1x64x512_2_0_0 rfl) $$ [HO L2 S2a S2b S2c S2d]
  · isplitr; · iexact HR
    isplitl [HO]; · iexact HO
    isplitl [L2]; · iexact L2
    isplitl [S2a]; · iexact S2a
    isplitl [S2b]; · iexact S2b
    isplitl [S2c]; · iexact S2c
    iexact S2d
  iintro ⟨C2, HO⟩
  rw [wp_ret]
  imodintro
  iapply Hk $$ [C1 C2 HO]
  isplitl [C1]; · iexact C1
  isplitl [C2]; · iexact C2
  iexact HO

/-- The last copy, the first one's departure and a landing. -/
theorem part13_run (K : GSem nD τ sig → ℕ) (c : Dev nD) (v415 v443 v445 : BitVec 32)
    (Kt : (BitVec 32) → sProp 𝕄) :
    iprop((recs I K ∗ levAts L lv ∗ owesX c (0 + T2 c 3) ∗ (ptq c cc0_scratch7 (shr 3) (osendV I c) ∗ snd2Res c 3) ∗ (crd c (s2 1) ∗ at0 c (s2 1)) ∗ (crd c (r2 3) ∗ at0 c (r2 3)))
      ∗ ((crd c (s2 3) ∗ owesX c 0 ∗ (at1 c (s2 1) ∗ ptq c cc0_scratch7 (shr 1) (osendV I c)) ∗ (at1 c (r2 3) ∗ ptS c cc0_scratch8 (slotO 3) (obufV I c))) -∗ ∀ r, Kt r))
      ⊢ wp frame (wpE (defs₀ (F := F)) 𝒱₀ c none) Set.univ (k0_part13 (F := F) xM (Memref.isWhole_whole _) wqM (Memref.isWhole_whole _) woM (Memref.isWhole_whole _) kM (Memref.isWhole_whole _) vM (Memref.isWhole_whole _) outM (Memref.isWhole_whole _) xsM (Memref.isWhole_whole _) wqsM (Memref.isWhole_whole _) wosM (Memref.isWhole_whole _) ksM (Memref.isWhole_whole _) vsM (Memref.isWhole_whole _) locM (Memref.isWhole_whole _) pM (Memref.isWhole_whole _) osM (Memref.isWhole_whole _) obM (Memref.isWhole_whole _) cc0_scratch9 cc0_scratch10 cc0_scratch11 cc0_scratch12 cc0_scratch13 c v415 v443 v445) Kt := by
  simp only [k0_part13_eq_skeleton]; unfold k0_part13_skel
  simp only [semSignalWord, semWaitWord, Prog.lift, Prog.bind_op, Prog.bind_ret, Prog.pure_eq_ret]
  unfold snd2Res
  iintro ⟨⟨#HR, #Hlev, HO, ⟨L3, S3a, S3b, S3c, S3d⟩, ⟨C1, P1⟩, ⟨C2, P2⟩⟩, Hk⟩
  iapply (send2 I K c ⟨k0_dev9 c, k0_dev9_lt c⟩ 3 (by decide) (dev9_eq c) _ _ (by decide) (by decide) 0 inb_S4x64x512_S1x64x512_1_0_0 rfl) $$ [HO L3 S3a S3b S3c S3d]
  · isplitr; · iexact HR
    isplitl [HO]; · iexact HO
    isplitl [L3]; · iexact L3
    isplitl [S3a]; · iexact S3a
    isplitl [S3b]; · iexact S3b
    isplitl [S3c]; · iexact S3c
    iexact S3d
  iintro ⟨C3, HO⟩
  iapply (wait_dma I K c (s2 1) (by decide) 0 3 (lv_le c _ _ (by decide)) (above_zero 3) (src := (oSl ![3, 0, 0] inb_S4x64x512_S1x64x512_3_0_0)) (dst := osM) rfl) $$ [HO C1 P1]
  · isplitr; · iexact HR
    isplitr; · iexact Hlev
    isplitl [HO]; · iexact HO
    isplitl [C1]; · iexact C1
    iexact P1
  iintro ⟨HO, P1, D1⟩
  ihave D1 := (Entails.of_eq (dmaPay_s2 I c 1 (by decide))) $$ D1
  iapply (wait_dma I K c (r2 3) (by decide) 0 3 (lv_le c _ _ (by decide)) (above_zero 3) (src := osM) (dst := (oSl ![3, 0, 0] inb_S4x64x512_S1x64x512_3_0_0)) rfl) $$ [HO C2 P2]
  · isplitr; · iexact HR
    isplitr; · iexact Hlev
    isplitl [HO]; · iexact HO
    isplitl [C2]; · iexact C2
    iexact P2
  iintro ⟨HO, P2, D2⟩
  ihave D2 := (Entails.of_eq (dmaPay_r2 I c 3)) $$ D2
  rw [wp_ret]
  imodintro
  iapply Hk $$ [C3 HO P1 P2 D1 D2]
  isplitl [C3]; · iexact C3
  isplitl [HO]; · iexact HO
  isplitl [P1 D1]
  · isplitl [P1]; · iexact P1
    iexact D1
  isplitl [P2]; · iexact P2
  iexact D2

/-- The other departures and landings. -/
theorem part14_run (K : GSem nD τ sig → ℕ) (c : Dev nD) (v2 v434 v453 : BitVec 32)
    (Kt : (BitVec 32) → sProp 𝕄) :
    iprop((recs I K ∗ levAts L lv ∗ owesX c 0 ∗ (crd c (s2 2) ∗ at0 c (s2 2)) ∗ (crd c (r2 2) ∗ at0 c (r2 2)) ∗ (crd c (s2 3) ∗ at0 c (s2 3)) ∗ (crd c (r2 1) ∗ at0 c (r2 1)))
      ∗ ((owesX c 0 ∗ (at1 c (s2 2) ∗ ptq c cc0_scratch7 (shr 2) (osendV I c)) ∗ (at1 c (r2 2) ∗ ptS c cc0_scratch8 (slotO 2) (obufV I c)) ∗ (at1 c (s2 3) ∗ ptq c cc0_scratch7 (shr 3) (osendV I c)) ∗ (at1 c (r2 1) ∗ ptS c cc0_scratch8 (slotO 1) (obufV I c))) -∗ ∀ r, Kt r))
      ⊢ wp frame (wpE (defs₀ (F := F)) 𝒱₀ c none) Set.univ (k0_part14 (F := F) xM (Memref.isWhole_whole _) wqM (Memref.isWhole_whole _) woM (Memref.isWhole_whole _) kM (Memref.isWhole_whole _) vM (Memref.isWhole_whole _) outM (Memref.isWhole_whole _) xsM (Memref.isWhole_whole _) wqsM (Memref.isWhole_whole _) wosM (Memref.isWhole_whole _) ksM (Memref.isWhole_whole _) vsM (Memref.isWhole_whole _) locM (Memref.isWhole_whole _) pM (Memref.isWhole_whole _) osM (Memref.isWhole_whole _) obM (Memref.isWhole_whole _) cc0_scratch9 cc0_scratch10 cc0_scratch11 cc0_scratch12 cc0_scratch13 v2 v434 v453) Kt := by
  simp only [k0_part14_eq_skeleton]; unfold k0_part14_skel
  simp only [semSignalWord, semWaitWord, Prog.lift, Prog.bind_op, Prog.bind_ret, Prog.pure_eq_ret]
  iintro ⟨⟨#HR, #Hlev, HO, ⟨C1, P1⟩, ⟨C2, P2⟩, ⟨C3, P3⟩, ⟨C4, P4⟩⟩, Hk⟩
  iapply (wait_dma I K c (s2 2) (by decide) 0 3 (lv_le c _ _ (by decide)) (above_zero 3) (src := (oSl ![2, 0, 0] inb_S4x64x512_S1x64x512_2_0_0)) (dst := osM) rfl) $$ [HO C1 P1]
  · isplitr; · iexact HR
    isplitr; · iexact Hlev
    isplitl [HO]; · iexact HO
    isplitl [C1]; · iexact C1
    iexact P1
  iintro ⟨HO, P1, D1⟩
  ihave D1 := (Entails.of_eq (dmaPay_s2 I c 2 (by decide))) $$ D1
  iapply (wait_dma I K c (r2 2) (by decide) 0 3 (lv_le c _ _ (by decide)) (above_zero 3) (src := osM) (dst := (oSl ![2, 0, 0] inb_S4x64x512_S1x64x512_2_0_0)) rfl) $$ [HO C2 P2]
  · isplitr; · iexact HR
    isplitr; · iexact Hlev
    isplitl [HO]; · iexact HO
    isplitl [C2]; · iexact C2
    iexact P2
  iintro ⟨HO, P2, D2⟩
  ihave D2 := (Entails.of_eq (dmaPay_r2 I c 2)) $$ D2
  iapply (wait_dma I K c (s2 3) (by decide) 0 3 (lv_le c _ _ (by decide)) (above_zero 3) (src := (oSl ![1, 0, 0] inb_S4x64x512_S1x64x512_1_0_0)) (dst := osM) rfl) $$ [HO C3 P3]
  · isplitr; · iexact HR
    isplitr; · iexact Hlev
    isplitl [HO]; · iexact HO
    isplitl [C3]; · iexact C3
    iexact P3
  iintro ⟨HO, P3, D3⟩
  ihave D3 := (Entails.of_eq (dmaPay_s2 I c 3 (by decide))) $$ D3
  iapply (wait_dma I K c (r2 1) (by decide) 0 3 (lv_le c _ _ (by decide)) (above_zero 3) (src := osM) (dst := (oSl ![1, 0, 0] inb_S4x64x512_S1x64x512_1_0_0)) rfl) $$ [HO C4 P4]
  · isplitr; · iexact HR
    isplitr; · iexact Hlev
    isplitl [HO]; · iexact HO
    isplitl [C4]; · iexact C4
    iexact P4
  iintro ⟨HO, P4, D4⟩
  ihave D4 := (Entails.of_eq (dmaPay_r2 I c 1)) $$ D4
  rw [wp_ret]
  imodintro
  iapply Hk $$ [HO P1 P2 P3 P4 D1 D2 D3 D4]
  isplitl [HO]; · iexact HO
  isplitl [P1 D1]
  · isplitl [P1]; · iexact P1
    iexact D1
  isplitl [P2 D2]
  · isplitl [P2]; · iexact P2
    iexact D2
  isplitl [P3 D3]
  · isplitl [P3]; · iexact P3
    iexact D3
  isplitl [P4]; · iexact P4
  iexact D4

/-- The result's buffer after one more quarter has been stored. -/
abbrev outW (o : Fin 2 → ℕ) (inb : ∀ a, o a + S64x512.size a ≤ S256x512.size a) (f : (cc0_stg0_0 : Ref sig .tc).ty.Contents (Elt F)) (w : FVec F S64x512 .f32) :
    (cc0_stg0_0 : Ref sig .tc).ty.Contents (Elt F) :=
  (outM.access (Rect.unit (s := S256x512) o S64x512.size inb)).write (Elt F) f w Finset.univ

/-- Two landed quarters are stored. -/
theorem part15_run (c : Dev nD) (f : (cc0_stg0_0 : Ref sig .tc).ty.Contents (Elt F)) (v2 v502 : BitVec 32)
    (Kt : (BitVec 32) → sProp 𝕄) :
    iprop((pt c cc0_stg0_0 f ∗ ptS c cc0_scratch8 (slotO 1) (obufV I c) ∗ ptS c cc0_scratch8 (slotO 2) (obufV I c))
      ∗ ((pt c cc0_stg0_0 (outW (k0_off4 c 2#32) (k0_off4_inb c 1) (outW (k0_off4 c 1#32) (k0_off4_inb c 0) f (k0_pay44 (oslot I c 1))) (k0_pay45 (oslot I c 2))) ∗ ptS c cc0_scratch8 (slotO 1) (obufV I c) ∗ ptS c cc0_scratch8 (slotO 2) (obufV I c)) -∗ ∀ r, Kt r))
      ⊢ wp frame (wpE (defs₀ (F := F)) 𝒱₀ c none) Set.univ (k0_part15 (F := F) xM (Memref.isWhole_whole _) wqM (Memref.isWhole_whole _) woM (Memref.isWhole_whole _) kM (Memref.isWhole_whole _) vM (Memref.isWhole_whole _) outM (Memref.isWhole_whole _) xsM (Memref.isWhole_whole _) wqsM (Memref.isWhole_whole _) wosM (Memref.isWhole_whole _) ksM (Memref.isWhole_whole _) vsM (Memref.isWhole_whole _) locM (Memref.isWhole_whole _) pM (Memref.isWhole_whole _) osM (Memref.isWhole_whole _) obM (Memref.isWhole_whole _) cc0_scratch9 cc0_scratch10 cc0_scratch11 cc0_scratch12 cc0_scratch13 c v2 v502) Kt := by
  simp only [k0_part15_eq_skeleton]; unfold k0_part15_skel
  simp only [semSignalWord, semWaitWord, Prog.lift, Prog.bind_op, Prog.bind_ret, Prog.pure_eq_ret]
  iintro ⟨⟨Ho, H1, H2⟩, Hk⟩
  iapply (wp_load_rect 𝒱₀ (c : Thread nD τ) none Set.univ (m := obM) (r := Rect.unit (s := S4x64x512) ![1, 0, 0] S1x64x512.size inb_S4x64x512_S1x64x512_1_0_0) (oslot_set 1 inb_S4x64x512_S1x64x512_1_0_0 rfl)) $$ [H1]
  · iexact H1
  iintro H1
  iapply (wp_load 𝒱₀ (c : Thread nD τ) none Set.univ (m := outM) (S := Finset.univ) (Finset.subset_univ _)) $$ [Ho]
  · iexact Ho
  iintro Ho
  iapply (wp_store 𝒱₀ (c : Thread nD τ) none Set.univ (m := outM) (S := Finset.univ) (Finset.subset_univ _)) $$ [Ho]
  · iexact Ho
  iintro Ho
  iapply (wp_load_rect 𝒱₀ (c : Thread nD τ) none Set.univ (m := obM) (r := Rect.unit (s := S4x64x512) ![2, 0, 0] S1x64x512.size inb_S4x64x512_S1x64x512_2_0_0) (oslot_set 2 inb_S4x64x512_S1x64x512_2_0_0 rfl)) $$ [H2]
  · iexact H2
  iintro H2
  iapply (wp_load 𝒱₀ (c : Thread nD τ) none Set.univ (m := outM) (S := Finset.univ) (Finset.subset_univ _)) $$ [Ho]
  · iexact Ho
  iintro Ho
  iapply (wp_store 𝒱₀ (c : Thread nD τ) none Set.univ (m := outM) (S := Finset.univ) (Finset.subset_univ _)) $$ [Ho]
  · iexact Ho
  iintro Ho
  rw [wp_ret]
  imodintro
  rw [read_oslot I c 1 inb_S4x64x512_S1x64x512_1_0_0 rfl, read_oslot I c 2 inb_S4x64x512_S1x64x512_2_0_0 rfl]
  iapply Hk $$ [Ho H1 H2]
  isplitl [Ho]; · iexact Ho
  isplitl [H1]; · iexact H1
  iexact H2

end Cert.KernelIdeal.Attn

end
-- ==== Proof.Body.lean ====
/-
  The kernel's body as a whole: the parts one after the other, with the partial result cut into quarters, the receive
  buffers into slots and the narrowed quarter into three shares.
-/
module

public import proofs.«01_k».proof.Proof.Body3

@[expose] public section

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] (I : Ins F)

local notation "𝕄" => MT nD τ sig Unit (Elt F) ℕ UU ℕ

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The partial result is its four quarters, the own one first. -/
theorem loc_split (c : Dev nD) (f : (cc0_scratch5 : Ref sig .tc).ty.Contents (Elt F)) :
    (pt c cc0_scratch5 f : sProp 𝕄) = iprop(ptS c cc0_scratch5 (rowsQ c) f ∗ ptS c cc0_scratch5 (rowsQ (rot c 1)) f
      ∗ ptS c cc0_scratch5 (rowsQ (rot c 2)) f ∗ ptS c cc0_scratch5 (rowsQ (rot c 3)) f) := by
  have e := pointsTo_biUnion (ℓ := (c : Thread nD τ).loc cc0_scratch5) (Ix := Unit) (Name := ℕ) (U := UU) (Lvl := ℕ) (q := fullShare) (f := f) Finset.univ (fun d : Fin 4 => rowsQ (rot c d)) (rows_disj c)
  rw [four, show (Finset.univ : Finset (Fin 4)).biUnion (fun d => rowsQ (rot c d)) = Finset.univ from rows_univ c] at e
  rw [rot_zero] at e
  exact e
theorem pbuf_split (c : Dev nD) (f : (cc0_scratch6 : Ref sig .tc).ty.Contents (Elt F)) :
    (pt c cc0_scratch6 f : sProp 𝕄) = iprop(ptS c cc0_scratch6 (slotP 0) f ∗ ptS c cc0_scratch6 (slotP 1) f
      ∗ ptS c cc0_scratch6 (slotP 2) f ∗ ptS c cc0_scratch6 (slotP 3) f) := by
  have e := pointsTo_biUnion (ℓ := (c : Thread nD τ).loc cc0_scratch6) (Ix := Unit) (Name := ℕ) (U := UU) (Lvl := ℕ) (q := fullShare) (f := f) Finset.univ slotP (slotP_disj)
  rw [four, show (Finset.univ : Finset (Fin 4)).biUnion slotP = Finset.univ from slotP_univ] at e
  exact e
theorem obuf_split (c : Dev nD) (f : (cc0_scratch8 : Ref sig .tc).ty.Contents (Elt F)) :
    (pt c cc0_scratch8 f : sProp 𝕄) = iprop(ptS c cc0_scratch8 (slotO 0) f ∗ ptS c cc0_scratch8 (slotO 1) f
      ∗ ptS c cc0_scratch8 (slotO 2) f ∗ ptS c cc0_scratch8 (slotO 3) f) := by
  have e := pointsTo_biUnion (ℓ := (c : Thread nD τ).loc cc0_scratch8) (Ix := Unit) (Name := ℕ) (U := UU) (Lvl := ℕ) (q := fullShare) (f := f) Finset.univ slotO (slotO_disj)
  rw [four, show (Finset.univ : Finset (Fin 4)).biUnion slotO = Finset.univ from slotO_univ] at e
  exact e
/-- The slots of the first receive buffer, one of them never written, are the buffer at some contents. -/
theorem pbuf_join (c : Dev nD) (f g : (cc0_scratch6 : Ref sig .tc).ty.Contents (Elt F)) :
    iprop(ptS c cc0_scratch6 (slotP 0) f ∗ ptS c cc0_scratch6 (slotP 1) g ∗ ptS c cc0_scratch6 (slotP 2) g ∗ ptS c cc0_scratch6 (slotP 3) g)
      ⊢ (iprop(∃ h, pt (F := F) c cc0_scratch6 h) : sProp 𝕄) := by
  have e := pointsTo_biUnion_join (ℓ := (c : Thread nD τ).loc cc0_scratch6) (Ix := Unit) (Name := ℕ) (U := UU) (Lvl := ℕ) (q := fullShare)
    Finset.univ slotP (fun t : Fin 4 => if t = 0 then f else g) f slotP_disj
  rw [four, show (Finset.univ : Finset (Fin 4)).biUnion slotP = Finset.univ from slotP_univ] at e
  iintro H0
  ihave H1 := e $$ [H0]
  · iexact H0
  icases H1 with ⟨%h, -, H⟩
  iexists h
  iexact H
theorem obuf_join (c : Dev nD) (f g : (cc0_scratch8 : Ref sig .tc).ty.Contents (Elt F)) :
    iprop(ptS c cc0_scratch8 (slotO 0) f ∗ ptS c cc0_scratch8 (slotO 1) g ∗ ptS c cc0_scratch8 (slotO 2) g ∗ ptS c cc0_scratch8 (slotO 3) g)
      ⊢ (iprop(∃ h, pt (F := F) c cc0_scratch8 h) : sProp 𝕄) := by
  have e := pointsTo_biUnion_join (ℓ := (c : Thread nD τ).loc cc0_scratch8) (Ix := Unit) (Name := ℕ) (U := UU) (Lvl := ℕ) (q := fullShare)
    Finset.univ slotO (fun t : Fin 4 => if t = 0 then f else g) f slotO_disj
  rw [four, show (Finset.univ : Finset (Fin 4)).biUnion slotO = Finset.univ from slotO_univ] at e
  iintro H0
  ihave H1 := e $$ [H0]
  · iexact H0
  icases H1 with ⟨%h, -, H⟩
  iexists h
  iexact H
/-- The narrowed quarter, read at three shares at once. -/
theorem osend_split (c : Dev nD) (f : (cc0_scratch7 : Ref sig .tc).ty.Contents (Elt F)) :
    (pt c cc0_scratch7 f : sProp 𝕄) ⊣⊢ iprop(ptq c cc0_scratch7 (shr 1) f ∗ ptq c cc0_scratch7 (shr 2) f ∗ ptq c cc0_scratch7 (shr 3) f) := by
  refine ⟨?_, ?_⟩
  · iintro H
    ihave H := (pointsTo_share (PosShare.mem_left_op_right fullShare)).1 $$ H
    icases H with ⟨H1, H⟩
    ihave H := (pointsTo_share (PosShare.mem_left_op_right fullShare.right)).1 $$ H
    icases H with ⟨H2, H3⟩
    isplitl [H1]; · iexact H1
    isplitl [H2]; · iexact H2
    iexact H3
  · iintro ⟨H1, H2, H3⟩
    iapply (pointsTo_share (PosShare.mem_left_op_right fullShare)).2
    isplitl [H1]; · iexact H1
    iapply (pointsTo_share (PosShare.mem_left_op_right fullShare.right)).2
    isplitl [H2]; · iexact H2
    iexact H3

/-! ## The cells' positions -/

/-- The round a DMA semaphore of the kernel ends in. -/
def endR (k : Fin 19) : ℕ := if used (k.val + 1) then 1 else 0
abbrev ocell (c : Dev nD) (k : Fin 19) : GSem nD τ sig := ((c : Thread nD τ), osem k)
theorem nineteen (Φ : Fin 19 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ
theorem pos_start (c : Dev nD) : (bigSep Finset.univ fun k : Fin 19 => (atPos ER (ocell c k) 0 ∅ 0 : sProp 𝕄))
    = iprop(at0 c 1 ∗ at0 c 2 ∗ at0 c 3 ∗ at0 c 4 ∗ at0 c 5 ∗ at0 c 6 ∗ at0 c 7 ∗ at0 c 8 ∗ at0 c 9 ∗ at0 c 10 ∗ at0 c 11 ∗ at0 c 12 ∗ at0 c 13 ∗ at0 c 14 ∗ at0 c 15 ∗ at0 c 16 ∗ at0 c 17 ∗ at0 c 18 ∗ at0 c 19) := by
  rw [nineteen]; rfl
theorem pos_end (c : Dev nD) : (bigSep Finset.univ fun k : Fin 19 => (atPos ER (ocell c k) (endR k) ∅ 0 : sProp 𝕄))
    = iprop(at1 c 1 ∗ at1 c 2 ∗ at1 c 3 ∗ at1 c 4 ∗ at1 c 5 ∗ at1 c 6 ∗ at1 c 7 ∗ at1 c 8 ∗ at0 c 9 ∗ at1 c 10 ∗ at1 c 11 ∗ at1 c 12 ∗ at1 c 13 ∗ at1 c 14 ∗ at1 c 15 ∗ at0 c 16 ∗ at1 c 17 ∗ at1 c 18 ∗ at1 c 19) := by
  rw [nineteen]; rfl
/-- That every DMA semaphore of the kernel is in its first round. -/
def rchs (c : Dev nD) : sProp 𝕄 := bigSep Finset.univ fun k : Fin 19 => reached ER (ocell c k) 0
instance rchs_persistent (c : Dev nD) : BI.Persistent (rchs (F := F) c) := by unfold rchs; infer_instance
theorem rchs_at (c : Dev nD) (n : Fin 20) (k : Fin 19) (h : n.val = k.val + 1) : rchs (F := F) c ⊢ rch (F := F) c n := by
  have e : rch (F := F) c n = reached ER (ocell c k) 0 := by
    have : n = ⟨k.val + 1, by have := k.isLt; omega⟩ := Fin.ext h
    rw [this]; rfl
  rw [e]
  exact bigSep_elim (Φ := fun k : Fin 19 => (reached ER (ocell c k) 0 : sProp 𝕄)) (Finset.mem_univ k)

/-! ## What a core starts the body with and what it leaves -/

/-- The tokens of the duties a core pays. -/
def toksOf (c : Dev nD) : sProp 𝕄 :=
  iprop((dutyTok ER (barCell (rot c 1)) 0 (opp 1) ∗ dutyTok ER (barCell (rot c 2)) 0 (opp 2) ∗ dutyTok ER (barCell (rot c 3)) 0 (opp 3))
    ∗ (tok c 1 ∗ tok c 2 ∗ tok c 3 ∗ tok c 4 ∗ tok c 5)
    ∗ (tok c (s1 1) ∗ tok c (s1 2) ∗ tok c (s1 3)) ∗ (tok (rot c 1) (r1 (opp 1)) ∗ tok (rot c 2) (r1 (opp 2)) ∗ tok (rot c 3) (r1 (opp 3)))
    ∗ (tok c (s2 1) ∗ tok c (s2 2) ∗ tok c (s2 3)) ∗ (tok (rot c 1) (r2 (opp 1)) ∗ tok (rot c 2) (r2 (opp 2)) ∗ tok (rot c 3) (r2 (opp 3))))
/-- The credits a core has from the launch. -/
def credsOf (c : Dev nD) : sProp 𝕄 :=
  iprop(cred (tallyAt (barCell c) () 3) ∗ (crd c (r1 1) ∗ crd c (r1 2) ∗ crd c (r1 3)) ∗ (crd c (r2 1) ∗ crd c (r2 2) ∗ crd c (r2 3)))
/-- The arrays the copies in read. -/
def insOf (c : Dev nD) : sProp 𝕄 :=
  iprop(pt c main_v1 (I.x c) ∗ pt c main_arg1 (I.wq c) ∗ pt c main_arg2 (I.wo c) ∗ pt c main_v2 (I.k c) ∗ pt c main_v3 (I.v c))
/-- The scratch buffers, at contents not chosen. -/
def scrOf (c : Dev nD) : sProp 𝕄 :=
  iprop((∃ f, pt (F := F) c cc0_scratch0 f) ∗ (∃ f, pt (F := F) c cc0_scratch1 f) ∗ (∃ f, pt (F := F) c cc0_scratch2 f) ∗ (∃ f, pt (F := F) c cc0_scratch3 f) ∗ (∃ f, pt (F := F) c cc0_scratch4 f) ∗ (∃ f, pt (F := F) c cc0_scratch5 f) ∗ (∃ f, pt (F := F) c cc0_scratch6 f) ∗ (∃ f, pt (F := F) c cc0_scratch7 f) ∗ (∃ f, pt (F := F) c cc0_scratch8 f))

/-- Before the body. -/
def bodyPre (K : GSem nD τ sig → ℕ) (c : Dev nD) (f : (cc0_stg0_0 : Ref sig .tc).ty.Contents (Elt F)) : sProp 𝕄 :=
  iprop(recs I K ∗ levAts L lv ∗ rchs c ∗ owesX c (O₀ c) ∗ atPos ER (barCell c) 0 ∅ 0
    ∗ (bigSep Finset.univ fun k : Fin 19 => atPos ER (ocell c k) 0 ∅ 0) ∗ toksOf c ∗ credsOf c ∗ insOf I c ∗ scrOf c ∗ pt c cc0_stg0_0 f)
/-- After it: the result is whole, nothing is owed. -/
def bodyPost (c : Dev nD) : sProp 𝕄 :=
  iprop(owesX c 0 ∗ atPos ER (barCell c) 1 ∅ 0
    ∗ (bigSep Finset.univ fun k : Fin 19 => atPos ER (ocell c k) (endR k) ∅ 0) ∗ insOf I c ∗ scrOf (F := F) c ∗ pt c cc0_stg0_0 (outV I c))

theorem body_run (K : GSem nD τ sig → ℕ) (c : Dev nD) (f : (cc0_stg0_0 : Ref sig .tc).ty.Contents (Elt F)) (Kt : PUnit → sProp 𝕄) :
    iprop(bodyPre I K c f ∗ (bodyPost I c -∗ Kt ⟨⟩))
      ⊢ wp frame (wpE (defs₀ (F := F)) 𝒱₀ c none) Set.univ (cc0_body (F := F) xM (Memref.isWhole_whole _) wqM (Memref.isWhole_whole _) woM (Memref.isWhole_whole _) kM (Memref.isWhole_whole _) vM (Memref.isWhole_whole _) outM (Memref.isWhole_whole _) xsM (Memref.isWhole_whole _) wqsM (Memref.isWhole_whole _) wosM (Memref.isWhole_whole _) ksM (Memref.isWhole_whole _) vsM (Memref.isWhole_whole _) locM (Memref.isWhole_whole _) pM (Memref.isWhole_whole _) osM (Memref.isWhole_whole _) obM (Memref.isWhole_whole _) cc0_scratch9 cc0_scratch10 cc0_scratch11 cc0_scratch12 cc0_scratch13) Kt := by
  rw [cc0_body_eq_skeleton]
  unfold cc0_body_skel
  simp only [wp_bind]
  unfold bodyPre toksOf credsOf insOf scrOf
  rw [pos_start]
  iintro ⟨⟨#HR, #Hlev, #Hrch, HO, PB, ⟨A1, A2, A3, A4, A5, A6, A7, A8, A9, A10, A11, A12, A13, A14, A15, A16, A17, A18, A19⟩,
    ⟨⟨TB1, TB2, TB3⟩, ⟨T1, T2, T3, T4, T5⟩, ⟨Ts1, Ts2, Ts3⟩, ⟨Tr1, Tr2, Tr3⟩, ⟨Us1, Us2, Us3⟩, ⟨Ur1, Ur2, Ur3⟩⟩,
    ⟨CB, ⟨Cr1, Cr2, Cr3⟩, ⟨Dr1, Dr2, Dr3⟩⟩, ⟨Mx, Mq, Mo, Mk, Mv⟩, ⟨S0, S1, S2, S3, S4, ⟨%f5, S5⟩, ⟨%f6, S6⟩, S7, ⟨%f8, S8⟩⟩, Hout⟩, Hk⟩
  ihave #R1 := (rchs_at (F := F) c 1 0 rfl) $$ Hrch
  ihave #R2 := (rchs_at (F := F) c 2 1 rfl) $$ Hrch
  ihave #R3 := (rchs_at (F := F) c 3 2 rfl) $$ Hrch
  ihave #R4 := (rchs_at (F := F) c 4 3 rfl) $$ Hrch
  ihave #R5 := (rchs_at (F := F) c 5 4 rfl) $$ Hrch
  ihave #R6 := (rchs_at (F := F) c 6 5 rfl) $$ Hrch
  ihave #R7 := (rchs_at (F := F) c 7 6 rfl) $$ Hrch
  ihave #R8 := (rchs_at (F := F) c 8 7 rfl) $$ Hrch
  ihave #R10 := (rchs_at (F := F) c 10 9 rfl) $$ Hrch
  ihave #R11 := (rchs_at (F := F) c 11 10 rfl) $$ Hrch
  ihave #R12 := (rchs_at (F := F) c 12 11 rfl) $$ Hrch
  ihave #R13 := (rchs_at (F := F) c 13 12 rfl) $$ Hrch
  ihave #R14 := (rchs_at (F := F) c 14 13 rfl) $$ Hrch
  ihave #R15 := (rchs_at (F := F) c 15 14 rfl) $$ Hrch
  ihave #R17 := (rchs_at (F := F) c 17 16 rfl) $$ Hrch
  ihave #R18 := (rchs_at (F := F) c 18 17 rfl) $$ Hrch
  ihave #R19 := (rchs_at (F := F) c 19 18 rfl) $$ Hrch
  ihave S6 := (Entails.of_eq (pbuf_split c f6)) $$ S6
  icases S6 with ⟨P0, P1, P2, P3⟩
  ihave S8 := (Entails.of_eq (obuf_split c f8)) $$ S8
  icases S8 with ⟨O0, O1, O2, O3⟩
  ihave P1 := (show ptS c cc0_scratch6 (slotP 1) f6 ⊢ iprop(∃ f, ptS (F := F) c cc0_scratch6 (slotP 1) f) by iintro H; iexists _; iexact H) $$ P1
  ihave O1 := (show ptS c cc0_scratch8 (slotO 1) f8 ⊢ iprop(∃ f, ptS (F := F) c cc0_scratch8 (slotO 1) f) by iintro H; iexists _; iexact H) $$ O1
  ihave P2 := (show ptS c cc0_scratch6 (slotP 2) f6 ⊢ iprop(∃ f, ptS (F := F) c cc0_scratch6 (slotP 2) f) by iintro H; iexists _; iexact H) $$ P2
  ihave O2 := (show ptS c cc0_scratch8 (slotO 2) f8 ⊢ iprop(∃ f, ptS (F := F) c cc0_scratch8 (slotO 2) f) by iintro H; iexists _; iexact H) $$ O2
  ihave P3 := (show ptS c cc0_scratch6 (slotP 3) f6 ⊢ iprop(∃ f, ptS (F := F) c cc0_scratch6 (slotP 3) f) by iintro H; iexists _; iexact H) $$ P3
  ihave O3 := (show ptS c cc0_scratch8 (slotO 3) f8 ⊢ iprop(∃ f, ptS (F := F) c cc0_scratch8 (slotO 3) f) by iintro H; iexists _; iexact H) $$ O3
  iapply (part1_run I K c _)
  isplitl [HO TB1 P1 O1 Mx S0 T1 Mq S1 T2 Mk S3 T3 Mv S4 T4 Mo S2 T5]
  · isplitr; · iexact HR
    isplitl [HO]
    · iexact HO
    isplitl [TB1 P1 O1]
    · isplitl [TB1]
      · iexact TB1
      isplitl [P1]
      · iexact P1
      isplitl [O1]
      · iexact O1
      isplitr; · iexact R10
      iexact R17
    isplitl [Mx S0 T1]
    · isplitl [Mx]
      · iexact Mx
      isplitl [S0]
      · iexact S0
      isplitl [T1]
      · iexact T1
      iexact R1
    isplitl [Mq S1 T2]
    · isplitl [Mq]
      · iexact Mq
      isplitl [S1]
      · iexact S1
      isplitl [T2]
      · iexact T2
      iexact R2
    isplitl [Mk S3 T3]
    · isplitl [Mk]
      · iexact Mk
      isplitl [S3]
      · iexact S3
      isplitl [T3]
      · iexact T3
      iexact R3
    isplitl [Mv S4 T4]
    · isplitl [Mv]
      · iexact Mv
      isplitl [S4]
      · iexact S4
      isplitl [T4]
      · iexact T4
      iexact R4
    isplitl [Mo]
    · iexact Mo
    isplitl [S2]
    · iexact S2
    isplitl [T5]
    · iexact T5
    iexact R5
  iintro ⟨HO, C1, C2, C3, C4, C5⟩
  try dsimp only
  iapply (part2_run I K c _ _ _ _ _)
  isplitl [HO TB2 P2 O2 TB3 P3 O3 C1 C2 A1 A2]
  · isplitr; · iexact HR
    isplitr; · iexact Hlev
    isplitl [HO]
    · iexact HO
    isplitl [TB2 P2 O2]
    · isplitl [TB2]
      · iexact TB2
      isplitl [P2]
      · iexact P2
      isplitl [O2]
      · iexact O2
      isplitr; · iexact R11
      iexact R18
    isplitl [TB3 P3 O3]
    · isplitl [TB3]
      · iexact TB3
      isplitl [P3]
      · iexact P3
      isplitl [O3]
      · iexact O3
      isplitr; · iexact R12
      iexact R19
    isplitl [C1]
    · iexact C1
    isplitl [C2]
    · iexact C2
    isplitl [A1]
    · iexact A1
    iexact A2
  iintro ⟨HO, A1, A2, ⟨S0, Mx⟩, ⟨S1, Mq⟩⟩
  try dsimp only
  iapply (part3_run c f5 _ _)
  isplitl [S5]
  · iexact S5
  iintro S5
  try dsimp only
  iapply (part4_run I K c _)
  isplitl [HO C3 C4 A3 A4]
  · isplitr; · iexact HR
    isplitr; · iexact Hlev
    isplitl [HO]
    · iexact HO
    isplitl [C3]
    · iexact C3
    isplitl [C4]
    · iexact C4
    isplitl [A3]
    · iexact A3
    iexact A4
  iintro ⟨HO, A3, A4, ⟨S3, Mk⟩, ⟨S4, Mv⟩⟩
  try dsimp only
  iapply (part5_run I c _)
  try dsimp only
  iapply (part6_run I K c f5 _ _)
  isplitl [HO CB PB S5]
  · isplitr; · iexact HR
    isplitr; · iexact Hlev
    isplitl [HO]
    · iexact HO
    isplitl [CB]
    · iexact CB
    isplitl [PB]
    · iexact PB
    iexact S5
  iintro ⟨HO, PB, S5, ⟨Q1, V1⟩, ⟨Q2, V2⟩, ⟨Q3, V3⟩⟩ %r6
  obtain ⟨v236, v237, v238, c93⟩ := r6
  try dsimp only
  ihave S5 := (Entails.of_eq (loc_split c (locV I c))) $$ S5
  icases S5 with ⟨L0, L1, L2, L3⟩
  iapply (part7_run I K c _ _ _ _ _ _)
  isplitl [HO L1 Q1 Ts1 Tr1]
  · isplitr; · iexact HR
    isplitl [HO]
    · iexact HO
    isplitl [L1]
    · iexact L1
    isplitl [Q1]
    · iexact Q1
    isplitl [Ts1]
    · iexact Ts1
    isplitr; · iexact R6
    iexact Tr1
  iintro ⟨E1, HO⟩ %r7
  obtain ⟨v244, v265⟩ := r7
  try dsimp only
  iapply (part8_run I K c _ _)
  isplitl [HO L2 Q2 Ts2 Tr2 L3 Q3 Ts3 Tr3 E1 A6]
  · isplitr; · iexact HR
    isplitr; · iexact Hlev
    isplitl [HO]
    · iexact HO
    isplitl [L2 Q2 Ts2 Tr2]
    · isplitl [L2]
      · iexact L2
      isplitl [Q2]
      · iexact Q2
      isplitl [Ts2]
      · iexact Ts2
      isplitr; · iexact R7
      iexact Tr2
    isplitl [L3 Q3 Ts3 Tr3]
    · isplitl [L3]
      · iexact L3
      isplitl [Q3]
      · iexact Q3
      isplitl [Ts3]
      · iexact Ts3
      isplitr; · iexact R8
      iexact Tr3
    isplitl [E1]
    · iexact E1
    iexact A6
  iintro ⟨HO, E2, E3, A6, L1⟩ %r8
  obtain ⟨v286, c145⟩ := r8
  try dsimp only
  iapply (part9_run I K c _ _ _ _ _)
  isplitl [HO Cr3 A12 E2 A7 Cr2 A11 E3 A8]
  · isplitr; · iexact HR
    isplitr; · iexact Hlev
    isplitl [HO]
    · iexact HO
    isplitl [Cr3 A12]
    · isplitl [Cr3]
      · iexact Cr3
      iexact A12
    isplitl [E2 A7]
    · isplitl [E2]
      · iexact E2
      iexact A7
    isplitl [Cr2 A11]
    · isplitl [Cr2]
      · iexact Cr2
      iexact A11
    isplitl [E3]
    · iexact E3
    iexact A8
  iintro ⟨HO, ⟨A12, P3⟩, ⟨A7, L2⟩, ⟨A11, P2⟩, ⟨A8, L3⟩⟩ %r9
  obtain ⟨v326, c176⟩ := r9
  try dsimp only
  iapply (part10_run I K c _ _ _ _)
  isplitl [HO Cr1 A10 L0 P2 P3]
  · isplitr; · iexact HR
    isplitr; · iexact Hlev
    isplitl [HO]
    · iexact HO
    isplitl [Cr1 A10]
    · isplitl [Cr1]
      · iexact Cr1
      iexact A10
    isplitl [L0]
    · iexact L0
    isplitl [P2]
    · iexact P2
    iexact P3
  iintro ⟨HO, A10, L0, P1, P2, P3⟩
  try dsimp only
  iapply (part11_run I K c f _ _)
  isplitl [HO C5 A5 Hout S7]
  · isplitr; · iexact HR
    isplitr; · iexact Hlev
    isplitl [HO]
    · iexact HO
    isplitl [C5 A5]
    · isplitl [C5]
      · iexact C5
      iexact A5
    isplitl [Hout]
    · iexact Hout
    iexact S7
  iintro ⟨HO, A5, ⟨S2, Mo⟩, Hout, S7⟩ %r11
  obtain ⟨v407, v408, v409, v412⟩ := r11
  try dsimp only
  ihave S7 := (osend_split c (osendV I c)).1 $$ S7
  icases S7 with ⟨G1, G2, G3⟩
  iapply (part12_run I K c _ _ _ _ _ _)
  isplitl [HO G1 V1 Us1 Ur1 G2 V2 Us2 Ur2]
  · isplitr; · iexact HR
    isplitl [HO]
    · iexact HO
    isplitl [G1 V1 Us1 Ur1]
    · isplitl [G1]
      · iexact G1
      isplitl [V1]
      · iexact V1
      isplitl [Us1]
      · iexact Us1
      isplitr; · iexact R13
      iexact Ur1
    isplitl [G2]
    · iexact G2
    isplitl [V2]
    · iexact V2
    isplitl [Us2]
    · iexact Us2
    isplitr; · iexact R14
    iexact Ur2
  iintro ⟨F1, F2, HO⟩ %r12
  obtain ⟨v415, v434, v443, v445⟩ := r12
  try dsimp only
  iapply (part13_run I K c _ _ _ _)
  isplitl [HO G3 V3 Us3 Ur3 F1 A13 Dr3 A19]
  · isplitr; · iexact HR
    isplitr; · iexact Hlev
    isplitl [HO]
    · iexact HO
    isplitl [G3 V3 Us3 Ur3]
    · isplitl [G3]
      · iexact G3
      isplitl [V3]
      · iexact V3
      isplitl [Us3]
      · iexact Us3
      isplitr; · iexact R15
      iexact Ur3
    isplitl [F1 A13]
    · isplitl [F1]
      · iexact F1
      iexact A13
    isplitl [Dr3]
    · iexact Dr3
    iexact A19
  iintro ⟨F3, HO, ⟨A13, G1⟩, ⟨A19, O3⟩⟩ %v453
  iapply (part14_run I K c _ _ _ _)
  isplitl [HO F2 A14 Dr2 A18 F3 A15 Dr1 A17]
  · isplitr; · iexact HR
    isplitr; · iexact Hlev
    isplitl [HO]
    · iexact HO
    isplitl [F2 A14]
    · isplitl [F2]
      · iexact F2
      iexact A14
    isplitl [Dr2 A18]
    · isplitl [Dr2]
      · iexact Dr2
      iexact A18
    isplitl [F3 A15]
    · isplitl [F3]
      · iexact F3
      iexact A15
    isplitl [Dr1]
    · iexact Dr1
    iexact A17
  iintro ⟨HO, ⟨A14, G2⟩, ⟨A18, O2⟩, ⟨A15, G3⟩, ⟨A17, O1⟩⟩ %v502
  iapply (part15_run I c _ _ _ _)
  isplitl [Hout O1 O2]
  · isplitl [Hout]
    · iexact Hout
    isplitl [O1]
    · iexact O1
    iexact O2
  iintro ⟨Hout, O1, O2⟩ %v536
  simp only [Prog.lift, Prog.bind_op, Prog.bind_ret, Prog.pure_eq_ret]
  iapply (wp_load_rect 𝒱₀ (c : Thread nD τ) none Set.univ (m := obM) (r := Rect.unit (s := S4x64x512) ![3, 0, 0] S1x64x512.size inb_S4x64x512_S1x64x512_3_0_0) (oslot_set 3 inb_S4x64x512_S1x64x512_3_0_0 rfl)) $$ [O3]
  · iexact O3
  iintro O3
  rw [wp_ret]
  imodintro
  iapply (wp_load 𝒱₀ (c : Thread nD τ) none Set.univ (m := outM) (S := Finset.univ) (Finset.subset_univ _)) $$ [Hout]
  · iexact Hout
  iintro Hout
  rw [wp_ret]
  imodintro
  iapply (wp_store 𝒱₀ (c : Thread nD τ) none Set.univ (m := outM) (S := Finset.univ) (Finset.subset_univ _)) $$ [Hout]
  · iexact Hout
  iintro Hout
  rw [wp_ret]
  imodintro
  rw [wp_ret]
  imodintro
  ihave Hout := (Entails.of_eq (congrArg (pt c cc0_stg0_0) (out_stores I c (k0_off3_inb c) (k0_off3_eq c) (k0_off4_inb c 0) (off4_eq c 0)
    (k0_off4_inb c 1) (off4_eq c 1) (k0_off4_inb c 2) (off4_eq c 2) f))) $$ [Hout]
  · rw [← read_oslot I c 3 inb_S4x64x512_S1x64x512_3_0_0 rfl]; iexact Hout
  ihave S7 := (osend_split c (osendV I c)).2 $$ [G1 G2 G3]
  · isplitl [G1]; · iexact G1
    isplitl [G2]; · iexact G2
    iexact G3
  ihave S5 := (Entails.of_eq (loc_split c (locV I c)).symm) $$ [L0 L1 L2 L3]
  · isplitl [L0]; · iexact L0
    isplitl [L1]; · iexact L1
    isplitl [L2]; · iexact L2
    iexact L3
  ihave S6 := (pbuf_join c f6 (pbufV I c)) $$ [P0 P1 P2 P3]
  · isplitl [P0]; · iexact P0
    isplitl [P1]; · iexact P1
    isplitl [P2]; · iexact P2
    iexact P3
  ihave S8 := (obuf_join c f8 (obufV I c)) $$ [O0 O1 O2 O3]
  · isplitl [O0]; · iexact O0
    isplitl [O1]; · iexact O1
    isplitl [O2]; · iexact O2
    iexact O3
  iapply Hk
  unfold bodyPost insOf scrOf
  rw [pos_end]
  isplitl [HO]; · iexact HO
  isplitl [PB]; · iexact PB
  isplitl [A1 A2 A3 A4 A5 A6 A7 A8 A9 A10 A11 A12 A13 A14 A15 A16 A17 A18 A19]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    iexact A19
  isplitl [Mx Mq Mo Mk Mv]
  · isplitl [Mx]; · iexact Mx
    isplitl [Mq]; · iexact Mq
    isplitl [Mo]; · iexact Mo
    isplitl [Mk]; · iexact Mk
    iexact Mv
  isplitl [S0 S1 S2 S3 S4 S5 S6 S7 S8]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexact S6
    isplitl [S7]; · iexists _; iexact S7
    iexact S8
  iexact Hout

end Cert.KernelIdeal.Attn

end
-- ==== Proof.Launch.lean ====
/-
  The kernel's region of the program: the buffers around it, the thread's state on its way through, the body's obligation
  from the body's run, and the region's record. Over any float type.
-/
module

public import proofs.«01_k».proof.Proof.Body

@[expose] public section

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The buffers' contents on the way -/

/-- At the start. -/
abbrev V₀ (c : Dev nD) : Valuation τ sig (Elt F) := fun b => m (c, b)
/-- After the reshapes before the kernel. -/
abbrev V₁ (c : Dev nD) : Valuation τ sig (Elt F) := StableHlo.after hostOps0 (V₀ m c)
/-- What the kernel is run on. -/
def insM : Ins F where
  x c := V₁ m c (Proc.devRef .tc main_v1)
  wq c := V₁ m c (Proc.devRef .tc main_arg1)
  wo c := V₁ m c (Proc.devRef .tc main_arg2)
  k c := V₁ m c (Proc.devRef .tc main_v2)
  v c := V₁ m c (Proc.devRef .tc main_v3)

/-- The buffers of a core outside the kernel. -/
def bufs : Finset (DevRef τ sig) := (StableHlo.tcRefs τ sig).filter fun b => ¬ b.isScoped
/-- The kernel's result. -/
abbrev Ho : Finset (DevRef τ sig) := {Proc.devRef .tc main_v4}
/-- The others. -/
abbrev Sr : Finset (DevRef τ sig) := bufs \ Ho
/-- Those the kernel's copies in read. -/
abbrev Hs : Finset (DevRef τ sig) :=
  {Proc.devRef .tc main_v1, Proc.devRef .tc main_arg1, Proc.devRef .tc main_arg2, Proc.devRef .tc main_v2, Proc.devRef .tc main_v3}

theorem Hs_sub : Hs ⊆ Sr := by decide
theorem Ho_sub : Ho ⊆ bufs := by decide
theorem arr_Ho : Pipeline.arrRefs (τ := τ) spec0 = Ho := by decide

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem held_split (c : Dev nD) (W : Valuation τ sig (Elt F)) :
    (StableHlo.held (c : Thread nD τ) bufs W : sProp 𝕄)
      = iprop(StableHlo.held (c : Thread nD τ) Ho W ∗ StableHlo.held (c : Thread nD τ) Sr W) :=
  StableHlo.held_sub_split (c : Thread nD τ) Ho_sub W

theorem held_Hs (c : Dev nD) (W : Valuation τ sig (Elt F)) : (StableHlo.held (c : Thread nD τ) Hs W : sProp 𝕄)
    = iprop(pt c main_v1 (W (Proc.devRef .tc main_v1)) ∗ pt c main_arg1 (W (Proc.devRef .tc main_arg1)) ∗ pt c main_arg2 (W (Proc.devRef .tc main_arg2))
      ∗ pt c main_v2 (W (Proc.devRef .tc main_v2)) ∗ pt c main_v3 (W (Proc.devRef .tc main_v3))) := by
  unfold StableHlo.held
  rw [bigSep_eq_bigSepL_of_eq [Proc.devRef .tc main_v1, Proc.devRef .tc main_arg1, Proc.devRef .tc main_arg2, Proc.devRef .tc main_v2, Proc.devRef .tc main_v3]
    (by decide) (by decide)]
  rfl

theorem held_ins (c : Dev nD) : (StableHlo.held (c : Thread nD τ) Hs (V₁ m c) : sProp 𝕄) = insOf (insM m) c := by
  rw [held_Hs]; rfl

/-! ## The thread's state through the kernel -/

/-- Before the kernel: the records, the positions, the rights to open the kernel's own semaphores, the tokens and the credits. -/
def Tk (c : Dev nD) : sProp 𝕄 :=
  iprop((∃ K, recs (insM m) K) ∗ atPos ER (barCell c) 0 ∅ 0 ∗ (bigSep Finset.univ fun k : Fin 19 => openTok ER (ocell c k)) ∗ toksOf c ∗ credsOf c)
/-- The same with the semaphores opened. -/
def Xk (c : Dev nD) : sProp 𝕄 :=
  iprop((∃ K, recs (insM m) K) ∗ levAts L lv ∗ rchs c ∗ atPos ER (barCell c) 0 ∅ 0
    ∗ (bigSep Finset.univ fun k : Fin 19 => atPos ER (ocell c k) 0 ∅ 0) ∗ toksOf c ∗ credsOf c)
/-- After it. -/
def Yk (c : Dev nD) : sProp 𝕄 := semVal (barCell c) 0

theorem ocell_eq (c : Dev nD) (k : Fin 19) : ocell c k = dcell c (⟨k.val + 1, by have := k.isLt; omega⟩ : Fin 20) := rfl

theorem recs_o (K : GSem nD τ sig → ℕ) (c : Dev nD) (k : Fin 19) : recs (insM m) K ⊢ cellInv ER (rd (insM m)) (K (ocell c k)) (ocell c k) :=
  recs_dma (insM m) K c (⟨k.val + 1, by have := k.isLt; omega⟩ : Fin 20) (fun h => absurd (congrArg Fin.val h) (Nat.succ_ne_zero _))

/-- A kernel's own semaphores are opened all together. -/
theorem open_all (K : GSem nD τ sig → ℕ) (c : Dev nD) :
    iprop(recs (insM m) K ∗ bigSep Finset.univ fun k : Fin 19 => iprop(openTok ER (ocell c k) ∗ semVal (ocell c k) 0))
      ⊢ (|={Set.univ}=> bigSep Finset.univ fun k : Fin 19 => iprop(atPos ER (ocell c k) 0 ∅ 0 ∗ reached ER (ocell c k) 0) : sProp 𝕄) := by
  refine BI.Entails.trans (bigSep_with_persistent (R := recs (insM m) K)
    (Ψ := fun k : Fin 19 => iprop(|={Set.univ}=> (atPos ER (ocell c k) 0 ∅ 0 ∗ reached ER (ocell c k) 0))) fun k _ => ?_) (BI.bigSep_fupd _ _)
  iintro ⟨#HR, H1, H2⟩
  ihave #HI := (recs_o m K c k) $$ HR
  iapply (Rounds.cell_open ER (rd (insM m)) (g := ocell c k) (Set.mem_univ (K (ocell c k))))
  isplitr; · iexact HI
  isplitl [H1] <;> iassumption

theorem endR_later (c : Dev nD) (k : Fin 19) (r : ℕ) (h : endR k ≤ r) : (rd (F := F) (insM m)).duties (ocell c k) r = ∅ := by
  unfold endR at h
  split at h
  · exact duties_later (insM m) _ r h
  · next hu => exact duties_spare (insM m) c (⟨k.val + 1, by have := k.isLt; omega⟩ : Fin 20) (by simpa using hu) r

/-- And closed all together. -/
theorem close_all (K : GSem nD τ sig → ℕ) (c : Dev nD) :
    iprop(recs (insM m) K ∗ bigSep Finset.univ fun k : Fin 19 => atPos ER (ocell c k) (endR k) ∅ 0)
      ⊢ (|={Set.univ}=> Pipeline.ownSems0 osem c : sProp 𝕄) := by
  unfold Pipeline.ownSems0
  refine BI.Entails.trans (bigSep_with_persistent (R := recs (insM m) K)
    (Ψ := fun k : Fin 19 => iprop(|={Set.univ}=> semVal (ocell c k) 0)) fun k _ => ?_) (BI.bigSep_fupd _ _)
  iintro ⟨#HR, H1⟩
  ihave #HI := (recs_o m K c k) $$ HR
  iapply (Rounds.cell_close ER (rd (insM m)) (Set.mem_univ (K (ocell c k))) id (endR_later m c k))
  isplitr; · iexact HI
  iexact H1

theorem close_bar (K : GSem nD τ sig → ℕ) (c : Dev nD) :
    iprop(recs (insM m) K ∗ atPos ER (barCell c) 1 ∅ 0) ⊢ (|={Set.univ}=> semVal (barCell c) 0 : sProp 𝕄) := by
  iintro ⟨#HR, H1⟩
  ihave #HI := (recs_bar (insM m) K c) $$ HR
  iapply (Rounds.cell_close ER (rd (insM m)) (Set.mem_univ (K (barCell c))) id (duties_later (insM m) (barCell c)))
  isplitr; · iexact HI
  iexact H1

theorem hopen (c : Dev nD) : iprop(Tk m c ∗ Pipeline.ownSems0 osem c ∗ levAts L lv) ⊢ (|={Set.univ}=> Xk m c : sProp 𝕄) := by
  unfold Tk Xk Pipeline.ownSems0 rchs
  iintro ⟨⟨⟨%K, #HR⟩, Hb, Hop, Ht, Hc⟩, Hs, #Hlev⟩
  imod (open_all m K c) $$ [Hop Hs] with H
  · isplitr; · iexact HR
    rw [bigSep_sep']
    isplitl [Hop] <;> iassumption
  ihave H' := (BI.BIBase.Entails.of_eq (bigSep_sep' Finset.univ (fun k : Fin 19 => (atPos ER (ocell c k) 0 ∅ 0 : sProp 𝕄)) (fun k => reached ER (ocell c k) 0))) $$ H
  icases H' with ⟨Ha, Hr⟩
  imodintro
  isplitr; · iexists K; iexact HR
  isplitr; · iexact Hlev
  isplitl [Hr]; · iexact Hr
  isplitl [Hb]; · iexact Hb
  isplitl [Ha]; · iexact Ha
  isplitl [Ht] <;> iassumption

/-! ## The region's data -/

/-- One grid point: the result's block is the whole result; all is owed before, nothing after. -/
def dat (c : Dev nD) : Dat τ (Elt F) Unit ℕ UU ℕ cfg0 c where
  A w := V₁ m c (Proc.devRef .tc (Pipeline.arrRef spec0 w))
  after w _ := match w with
    | ⟨0, _⟩ => outV (insM m) c
    | ⟨_ + 1, h⟩ => absurd h (Nat.not_lt.2 (Nat.le_add_left _ _))
  Φ t := if t.val = 0 then iprop(Xk m c ∗ insOf (insM m) c ∗ scrOf (F := F) c ∗ ∃ r, prngReg c r)
    else iprop(Yk c ∗ Pipeline.ownSems0 osem c ∗ insOf (insM m) c ∗ scrOf (F := F) c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | ⟨0, _⟩ => dat m
  | ⟨_ + 1, h⟩ => absurd h (Nat.not_lt.2 (Nat.le_add_left _ _))

theorem owed_zero (c : Dev nD) : (pdats (F := F) m 0 c).owed 0 = O₀ c := by
  show (if ((0 : Fin (cfg0.N + 1)).val = 0) then O₀ c else 0) = O₀ c; exact if_pos rfl
theorem owed_first (c : Dev nD) : (dat (F := F) m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem owesAt_intro (c : Dev nD) (t : Fin (cfg0.N + 1)) (O : CellTallies nD τ sig Unit) (h0 : (dat (F := F) m c).owed t = O) :
    (owesX c O : sProp 𝕄) ⊢ ((dat m c).owesAt () t : sProp 𝕄) := by
  unfold owesX Dat.owesAt Pipeline.owesWithin; rw [h0]
  iintro ⟨%W, HO⟩
  iexists W; isplitr; · ipureintro; exact fun _ _ => Or.inl trivial
  iexact HO
theorem owesAt_elim (c : Dev nD) (t : Fin (cfg0.N + 1)) (O : CellTallies nD τ sig Unit) (h0 : (dat (F := F) m c).owed t = O) :
    ((dat m c).owesAt () t : sProp 𝕄) ⊢ owesX c O := by
  unfold owesX Dat.owesAt Pipeline.owesWithin; rw [h0]
  iintro ⟨%W, -, HO⟩; iexists W; iexact HO

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Before the body, as the region has it. -/
def obPre (c : Dev nD) : sProp 𝕄 :=
  iprop((Xk m c ∗ insOf (insM m) c ∗ scrOf (F := F) c ∗ ∃ r, prngReg c r) ∗ (dat m c).owesAt () t0_0.castSucc
    ∗ ∃ d, owns (Ix := Unit) (Name := ℕ) (U := UU) (Lvl := ℕ) (c : Thread nD τ) (Memref.whole cc0_stg0_0) fullShare ((dat m c).before (0 : Fin 1) t0_0 d))
/-- After it. -/
def obPost (c : Dev nD) : sProp 𝕄 :=
  iprop((Yk c ∗ Pipeline.ownSems0 osem c ∗ insOf (insM m) c ∗ scrOf (F := F) c ∗ ∃ r, prngReg c r) ∗ (dat m c).owesAt () t0_0.succ
    ∗ owns (Ix := Unit) (Name := ℕ) (U := UU) (Lvl := ℕ) (c : Thread nD τ) (Memref.whole cc0_stg0_0) fullShare (outV (insM m) c))

set_option maxRecDepth 4000 in
/-- The body from the one to the other: its run, then every semaphore closed. -/
theorem body_ob (c : Dev nD) : obPre m c ⊢ wp frame (wpE (defs₀ (F := F)) 𝒱₀ c none) Set.univ
    (cc0_body (F := F) xM (Memref.isWhole_whole _) wqM (Memref.isWhole_whole _) woM (Memref.isWhole_whole _) kM (Memref.isWhole_whole _) vM (Memref.isWhole_whole _) outM (Memref.isWhole_whole _) xsM (Memref.isWhole_whole _) wqsM (Memref.isWhole_whole _) wosM (Memref.isWhole_whole _) ksM (Memref.isWhole_whole _) vsM (Memref.isWhole_whole _) locM (Memref.isWhole_whole _) pM (Memref.isWhole_whole _) osM (Memref.isWhole_whole _) obM (Memref.isWhole_whole _) cc0_scratch9 cc0_scratch10 cc0_scratch11 cc0_scratch12 cc0_scratch13)
    (fun _ => obPost m c) := by
  unfold obPre obPost
  simp only [owns_whole_eq]
  unfold Xk Yk
  iintro ⟨⟨⟨⟨%K, #HR⟩, #Hlev, #Hrch, Hb, Ha, Ht, Hc⟩, Hins, Hscr, Hreg⟩, HO, ⟨%d, %f, %hf, Hst⟩⟩
  ihave HO' := (owesAt_elim m c _ (O₀ c) (owed_first m c)) $$ HO
  iapply wp_fupd
  iapply (body_run (insM m) K c f _)
  isplitr [Hreg]
  · unfold bodyPre
    isplitr; · iexact HR
    isplitr; · iexact Hlev
    isplitr; · iexact Hrch
    isplitl [HO']; · iexact HO'
    isplitl [Hb]; · iexact Hb
    isplitl [Ha]; · iexact Ha
    isplitl [Ht]; · iexact Ht
    isplitl [Hc]; · iexact Hc
    isplitl [Hins]; · iexact Hins
    isplitl [Hscr]; · iexact Hscr
    iexact Hst
  unfold bodyPost
  iintro ⟨HO, Hb, Ha, Hins, Hscr, Hst⟩
  imod (close_bar m K c) $$ [Hb] with Hb0
  · isplitr; · iexact HR
    iexact Hb
  imod (close_all m K c) $$ [Ha] with Ha0
  · isplitr; · iexact HR
    iexact Ha
  imodintro
  isplitl [Hb0 Ha0 Hins Hscr Hreg]
  · isplitl [Hb0]; · iexact Hb0
    isplitl [Ha0]; · iexact Ha0
    isplitl [Hins]; · iexact Hins
    isplitl [Hscr]; · iexact Hscr
    iexact Hreg
  isplitl [HO]; · iapply (owesAt_intro m c t0_0.succ 0 (owed_last m c)); iexact HO
  iexists _; isplitr; swap; (· iexact Hst); ipureintro; rfl

set_option maxRecDepth 4000 in
theorem body_obligation (c : Dev nD) : BodyObligation (dat (F := F) m c) (defs₀ (F := F)) 𝒱₀ () Set.univ := fun t => by
  obtain rfl := fin_N0 t
  rw [bigSep_W0, bigSep_W0]
  exact body_ob m c

end Cert.KernelIdeal.Attn

end
-- ==== Proof.Run.lean ====
/-
  The run of the whole program on the four devices: the region's record, the launch of the ring's ghost state, and what
  every final state holds. Over any float type.
-/
module

public import proofs.«01_k».proof.Proof.Launch

@[expose] public section

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The region's record -/

/-- The kernel's result, as the write-back leaves it. -/
def finalO (c : Dev nD) : Buf (Elt F) ((c : Thread nD τ).loc main_v4) := (dat m c).arrAt (0 : Fin 1) cfg0.N
/-- The buffers after the kernel. -/
def V₂ (c : Dev nD) : Valuation τ sig (Elt F) := Function.update (V₁ m c) (Proc.devRef .tc main_v4) (finalO m c)

theorem V₂_ne (c : Dev nD) (b : DevRef τ sig) (h : b ≠ Proc.devRef .tc main_v4) : V₂ m c b = V₁ m c b := Function.update_of_ne h _ _
theorem V₂_out (c : Dev nD) : V₂ m c (Proc.devRef .tc main_v4) = finalO m c := Function.update_self _ _ _

theorem kitP : Pipeline.PLaunchFacts (nD := nD) (τ := τ) (pcfgs (F := F)) 0 where
  cellOf_inj a := by rw [Subsingleton.elim a adm]; exact Gen.cellOf_inj
  win := Gen.winFacts0
  pre := Pipeline.PreFacts.none _
  block_pos := Gen.block_pos0
  arr_whole := Gen.arr_whole0
  stage_whole := Gen.stage_whole0

theorem above_O₀ (c : Dev nD) : Above 0 (O₀ c) :=
  ((((above_Osnd1 c).mono (by decide)).add (above_tally _ _ _ Nat.one_pos)).add (above_tally _ _ _ Nat.one_pos)).add (above_tally _ _ _ Nat.one_pos)

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · have h' := above_O₀ c g i h
    exact ⟨by unfold L; rw [if_pos h'.1]; exact Finset.mem_singleton_self _, h'.2⟩
  · exact absurd h (Nat.lt_irrefl 0)

theorem scopedRest_scr (c : Dev nD) :
    (Pipeline.scopedRest (Ix := Unit) (Name := ℕ) (U := UU) (Lvl := ℕ) (Val := Elt F) (Pipeline.pin (pcfgs (F := F)) adm 0).spec c : sProp 𝕄) = scrOf (F := F) c :=
  Gen.scopedRest0_eq c

theorem held_ins' (c : Dev nD) : (StableHlo.held (c : Thread nD τ) Hs (V₂ m c) : sProp 𝕄) = insOf (insM m) c := by
  rw [← held_ins, held_Hs, held_Hs, V₂_ne m c _ (by decide), V₂_ne m c _ (by decide), V₂_ne m c _ (by decide), V₂_ne m c _ (by decide), V₂_ne m c _ (by decide)]

theorem hin (c : Dev nD) : iprop(Pipeline.scopedRest (Pipeline.pin (pcfgs (F := F)) adm 0).spec c ∗ (∃ r, prngReg c r) ∗ StableHlo.held (c.tc : Thread nD τ) Hs (V₁ m c) ∗ Xk m c)
    ⊢ (pdats m 0 c).Φ 0 := by
  rw [show (pdats m 0 c).Φ 0 = iprop(Xk m c ∗ insOf (insM m) c ∗ scrOf (F := F) c ∗ ∃ r, prngReg c r) from rfl, scopedRest_scr, held_ins]
  iintro ⟨Hs, Hp, Hi, HX⟩
  isplitl [HX]; · iexact HX
  isplitl [Hi]; · iexact Hi
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V₂ m c) ∗ Pipeline.ownSems0 osem c ∗ Yk c) := by
  rw [show (pdats m 0 c).Φ (Fin.last _) = iprop(Yk c ∗ Pipeline.ownSems0 osem c ∗ insOf (insM m) c ∗ scrOf (F := F) c ∗ ∃ r, prngReg c r) from rfl,
    scopedRest_scr, held_ins']
  iintro ⟨HY, Ho, Hi, Hs, Hp⟩
  isplitl [Hs]; · iexact Hs
  isplitl [Hp]; · iexact Hp
  isplitl [Hi]; · iexact Hi
  isplitl [Ho] <;> iassumption

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
/-- The kernel's region. -/
def reg : ℝ𝕊 0 :=
  Pipeline.RegionSeg.ofTalk (pcfgs (F := F)) adm (pdats m) () defs₀ 𝒱₀ L lv 0 osem (by decide : Pipeline.OwnSemFacts spec0 osem)
    Hs Sr Hs_sub kitP rfl (fun c => (body_obligation m c).loose)
    (fun _ => 0) O₀ (fun c => (owed_zero m c).trans (zero_add _).symm) (owed_last m) (fun _ => rfl)
    (fun _ w => match w with | ⟨0, _⟩ => rfl | ⟨_ + 1, h⟩ => absurd h (Nat.not_lt.2 (Nat.le_add_left _ _)))
    (V₁ m) (V₂ m) (fun c b hb => V₂_ne m c b fun h => by subst h; exact absurd hb (by decide))
    (Tk m) Yk (Xk m) Yk (hopen m) (hin m) (hout m)
    (fun c => by iintro H; imodintro; iexact H)
    (fun _ => 0)
    ⟨fun c w s => by rw [L_tc]; exact Finset.mem_singleton_self _,
     fun c w s => by
      match w, s with
      | ⟨0, _⟩, ⟨0, _⟩ => exact le_of_eq rfl,
     fun c t g i h => cutD m c t g i h⟩
    (fun _ => iprop(emp))
    (fun _ w => match w with | ⟨0, _⟩ => rfl | ⟨_ + 1, h⟩ => absurd h (Nat.not_lt.2 (Nat.le_add_left _ _)))
    (fun c w => match w with | ⟨0, _⟩ => (V₂_out m c).symm | ⟨_ + 1, h⟩ => absurd h (Nat.not_lt.2 (Nat.le_add_left _ _)))

/-- What rides beside the buffers up to the kernel. -/
def R (c : Dev nD) : sProp 𝕄 := iprop(Tk m c ∗ (∃ r, prngReg c r) ∗ owesX c (O₀ c))

theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) Sr (V₁ m c) ∗ emp) ∗ Tk m c ∗ ∃ Wd, owes (c : Thread nD τ) (0 + O₀ c) Wd)
  rw [arr_Ho, zero_add, held_split]
  unfold R owesX
  iintro ⟨⟨Ho, Hr⟩, HT, Hp, HO⟩
  isplitl [Ho]; · iexact Ho
  isplitl [Hp]; · iexact Hp
  isplitl [Hr]
  · isplitl [Hr]; · iexact Hr
    iempintro
  isplitl [HT] <;> iassumption

theorem reg_post (c : Dev nD) : (reg m).post c
    ⊢ iprop(StableHlo.held (c : Thread nD τ) bufs (V₂ m c) ∗ (semVal (barCell c) 0 ∗ owesX c 0)) := by
  show iprop(StableHlo.held (c.tc : Thread nD τ) (Pipeline.arrRefs (τ := τ) spec0) (V₂ m c) ∗ (∃ r, prngReg c r)
    ∗ (StableHlo.held (c.tc : Thread nD τ) Sr (V₂ m c) ∗ emp) ∗ Yk c ∗ ∃ Wd, owes (c : Thread nD τ) (0 : CellTallies nD τ sig Unit) Wd) ⊢ _
  rw [arr_Ho, held_split]
  unfold Yk owesX
  iintro ⟨Ho, -, ⟨Hr, -⟩, Hb, HO⟩
  isplitl [Ho Hr]; · isplitl [Ho] <;> iassumption
  isplitl [Hb] <;> iassumption

/-! ## The segments -/

theorem ops_of (ops : List (HloOp τ sig (Elt F))) (h : ops.Forall fun op => op.bufs ⊆ StableHlo.tcRefs τ sig) :
    ∀ op ∈ ops, op.bufs ⊆ bufs := fun op hop => by
  have h1 := (List.forall_iff_forall_mem.mp h) op hop
  exact Pipeline.sub_ucRefs op h1

/-- The reshapes before the kernel. -/
def seg0 : ℍ := Pipeline.HostSeg.ofOps _ _ _ _ _ bufs hostOps0 (ops_of _ hostOps0_sub)
  (List.forall_iff_forall_mem.mp (by simp only [hostOps0, List.Forall]; repeat' constructor)) (V₀ m) (R m)
/-- The reshape after it. -/
def seg1 : ℍ := Pipeline.HostSeg.ofOps _ _ _ _ _ bufs hostOps1 (ops_of _ hostOps1_sub)
  (List.forall_iff_forall_mem.mp (by simp only [hostOps1, List.Forall]; repeat' constructor)) (V₂ m) (fun c => iprop(semVal (barCell c) 0 ∗ owesX c 0))

abbrev segs : List (Pipeline.Seg (pcfgs (F := F)) adm (pdats m) () defs₀ 𝒱₀ L lv) :=
  [.host (seg0 m), .region (reg m), .host (seg1 m)]

theorem main_eq (c : Dev nD) : main (F := F) c = Pipeline.Seg.run (segs m) :=
  Gen.main_segs adm (pdats m) () 𝒱₀ L lv (seg0 m) (seg1 m) (reg m) rfl rfl c

end Cert.KernelIdeal.Attn

end
-- ==== Proof.Deal.lean ====
/-
  The launch: the ring's ghost state funded, the tokens carried to the devices that pay with them, the credits, and the
  run of the whole program.
-/
module

public import proofs.«01_k».proof.Proof.Run
public import Idealize.ShloMosaic.Harness.Basic

@[expose] public section

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The tokens -/

/-- The semaphore a token is of. -/
def tsem (k : Fin 22) : SemLoc sig := if h : k.val < 19 then osem ⟨k.val, h⟩ else .reg barrier0
/-- Its duty. -/
def tdut (k : Fin 22) : Fin 4 := if k.val < 19 then 0 else ⟨(k.val - 18) % 4, Nat.mod_lt _ (by decide)⟩
theorem tk_inj : Function.Injective (fun k : Fin 22 => (tsem k, tdut k)) := by decide
/-- All tokens of all devices. -/
def allToks : Finset (GSem nD τ sig × ℕ × Fin 4) :=
  Finset.univ.map ⟨fun ck : Dev nD × Fin 22 => (((ck.1 : Thread nD τ), tsem ck.2), 0, tdut ck.2), fun _ _ h =>
    Prod.ext (congrArg (fun t : GSem nD τ sig × ℕ × Fin 4 => t.1.1.1) h)
      (tk_inj (Prod.ext (congrArg (fun t : GSem nD τ sig × ℕ × Fin 4 => t.1.2) h) (congrArg (fun t : GSem nD τ sig × ℕ × Fin 4 => t.2.2) h)))⟩

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The tokens of the duties on a device's own semaphores. -/
def toksAt (c : Dev nD) : sProp 𝕄 :=
  iprop((dutyTok ER (barCell c) 0 (opp 1) ∗ dutyTok ER (barCell c) 0 (opp 2) ∗ dutyTok ER (barCell c) 0 (opp 3))
    ∗ (tok c 1 ∗ tok c 2 ∗ tok c 3 ∗ tok c 4 ∗ tok c 5)
    ∗ (tok c (s1 1) ∗ tok c (s1 2) ∗ tok c (s1 3)) ∗ (tok c (r1 (opp 1)) ∗ tok c (r1 (opp 2)) ∗ tok c (r1 (opp 3)))
    ∗ (tok c (s2 1) ∗ tok c (s2 2) ∗ tok c (s2 3)) ∗ (tok c (r2 (opp 1)) ∗ tok c (r2 (opp 2)) ∗ tok c (r2 (opp 3))))

theorem toksAt_of (c : Dev nD) : (bigSep Finset.univ fun k : Fin 22 => (dutyTok ER ((c : Thread nD τ), tsem k) 0 (tdut k) : sProp 𝕄)) ⊢ toksAt (F := F) c := by
  have e : (bigSep Finset.univ fun k : Fin 22 => (dutyTok ER ((c : Thread nD τ), tsem k) 0 (tdut k) : sProp 𝕄))
      = iprop(dutyTok ER (barCell c) 0 (opp 1) ∗ dutyTok ER (barCell c) 0 (opp 2) ∗ dutyTok ER (barCell c) 0 (opp 3) ∗ tok c 1 ∗ tok c 2 ∗ tok c 3 ∗ tok c 4 ∗ tok c 5 ∗ tok c (s1 1) ∗ tok c (s1 2) ∗ tok c (s1 3) ∗ tok c (r1 (opp 1)) ∗ tok c (r1 (opp 2)) ∗ tok c (r1 (opp 3)) ∗ tok c (s2 1) ∗ tok c (s2 2) ∗ tok c (s2 3) ∗ tok c (r2 (opp 1)) ∗ tok c (r2 (opp 2)) ∗ tok c (r2 (opp 3)) ∗ tok c 9 ∗ tok c 16) := by
    rw [bigSep_univ_eq_bigSepL [21, 20, 19, 0, 1, 2, 3, 4, 5, 6, 7, 11, 10, 9, 12, 13, 14, 18, 17, 16, 8, 15] (by decide) (by decide)]; rfl
  rw [e]
  unfold toksAt
  iintro ⟨H0, H1, H2, H3, H4, H5, H6, H7, H8, H9, H10, H11, H12, H13, H14, H15, H16, H17, H18, H19, -, -⟩
  isplitl [H0 H1 H2]
  · isplitl [H0]; · iexact H0
    isplitl [H1]; · iexact H1
    iexact H2
  isplitl [H3 H4 H5 H6 H7]
  · isplitl [H3]; · iexact H3
    isplitl [H4]; · iexact H4
    isplitl [H5]; · iexact H5
    isplitl [H6]; · iexact H6
    iexact H7
  isplitl [H8 H9 H10]
  · isplitl [H8]; · iexact H8
    isplitl [H9]; · iexact H9
    iexact H10
  isplitl [H11 H12 H13]
  · isplitl [H11]; · iexact H11
    isplitl [H12]; · iexact H12
    iexact H13
  isplitl [H14 H15 H16]
  · isplitl [H14]; · iexact H14
    isplitl [H15]; · iexact H15
    iexact H16
  isplitl [H17]; · iexact H17
  isplitl [H18]; · iexact H18
  iexact H19

theorem toks_eq : bigSep allToks (fun x => (dutyTok ER x.1 x.2.1 x.2.2 : sProp 𝕄)) ⊢ bigSep Finset.univ fun c : Dev nD => toksAt (F := F) c := by
  unfold allToks; rw [bigSep_map, bigSep_univ_prod]
  exact bigSep_mono fun c _ => toksAt_of c

/-- Going a distance, as a bijection of the devices. -/
def rotE (d : Fin 4) : Dev nD ≃ Dev nD := ⟨fun c => rot c d, fun c => rot c (opp d), fun c => rot_opp c d, fun c => rot_opp' c d⟩

/-- The barriers' and the receive semaphores' tokens go to the devices that pay with them. -/
theorem toks_around : (bigSep Finset.univ fun c : Dev nD => toksAt (F := F) c) ⊢ bigSep Finset.univ fun c : Dev nD => toksOf (F := F) c := by
  unfold toksAt toksOf
  simp only [bigSep_sep']
  rw [bigSep_univ_equiv (rotE 1) (fun c : Dev nD => (dutyTok ER (barCell c) 0 (opp 1) : sProp 𝕄)),
    bigSep_univ_equiv (rotE 2) (fun c : Dev nD => (dutyTok ER (barCell c) 0 (opp 2) : sProp 𝕄)),
    bigSep_univ_equiv (rotE 3) (fun c : Dev nD => (dutyTok ER (barCell c) 0 (opp 3) : sProp 𝕄)),
    bigSep_univ_equiv (rotE 1) (fun c : Dev nD => (tok c (r1 (opp 1)) : sProp 𝕄)),
    bigSep_univ_equiv (rotE 2) (fun c : Dev nD => (tok c (r1 (opp 2)) : sProp 𝕄)),
    bigSep_univ_equiv (rotE 3) (fun c : Dev nD => (tok c (r1 (opp 3)) : sProp 𝕄)),
    bigSep_univ_equiv (rotE 1) (fun c : Dev nD => (tok c (r2 (opp 1)) : sProp 𝕄)),
    bigSep_univ_equiv (rotE 2) (fun c : Dev nD => (tok c (r2 (opp 2)) : sProp 𝕄)),
    bigSep_univ_equiv (rotE 3) (fun c : Dev nD => (tok c (r2 (opp 3)) : sProp 𝕄))]
  exact BI.Entails.refl _

/-! ## The credits -/

/-- What all devices owe a semaphore from a distance is what the one at that distance back does. -/
theorem sum_tally (k : Fin 4) (sm sm' : SemLoc sig) (A : ℕ) (c : Dev nD) :
    ∑ d : Dev nD, (tallyAt ((rot d k : Thread nD τ), sm) () A : CellTallies nD τ sig Unit) ((c : Thread nD τ), sm') () = if sm' = sm then A else 0 := by
  have h (d : Dev nD) : (tallyAt ((rot d k : Thread nD τ), sm) () A : CellTallies nD τ sig Unit) ((c : Thread nD τ), sm') ()
      = if d = rot c (opp k) then (if sm' = sm then A else 0) else 0 := by
    rw [tallyAt_apply]
    by_cases h1 : d = rot c (opp k)
    · subst h1
      rw [rot_opp', if_pos rfl]
      by_cases h2 : sm' = sm
      · subst h2; rw [if_pos ⟨rfl, rfl⟩, if_pos rfl]
      · rw [if_neg (fun h => h2 (congrArg Prod.snd h.1)), if_neg h2]
    · rw [if_neg h1, if_neg]
      intro h
      have h3 : c = rot d k := congrArg (fun g : GSem nD τ sig => g.1.1) h.1
      exact h1 (by rw [h3, rot_opp])
  rw [Finset.sum_congr rfl fun d _ => h d, Finset.sum_ite_eq' Finset.univ (rot c (opp k)), if_pos (Finset.mem_univ _)]

theorem owed_total (c : Dev nD) (sm : SemLoc sig) : ∑ d : Dev nD, O₀ d ((c : Thread nD τ), sm) () =
    0 + (if sm = .dma (r2 (opp 3)) then amt (r2 (opp 3)).val else 0) + (if sm = .dma (r2 (opp 2)) then amt (r2 (opp 2)).val else 0)
      + (if sm = .dma (r2 (opp 1)) then amt (r2 (opp 1)).val else 0)
      + (if sm = .dma (r1 (opp 3)) then amt (r1 (opp 3)).val else 0) + (if sm = .dma (r1 (opp 2)) then amt (r1 (opp 2)).val else 0)
      + (if sm = .dma (r1 (opp 1)) then amt (r1 (opp 1)).val else 0)
      + (if sm = .reg barrier0 then 1 else 0) + (if sm = .reg barrier0 then 1 else 0) + (if sm = .reg barrier0 then 1 else 0) := by
  rw [← sum_tally 3 (.dma (r2 (opp 3))) sm (amt (r2 (opp 3)).val) c, ← sum_tally 2 (.dma (r2 (opp 2))) sm (amt (r2 (opp 2)).val) c,
    ← sum_tally 1 (.dma (r2 (opp 1))) sm (amt (r2 (opp 1)).val) c, ← sum_tally 3 (.dma (r1 (opp 3))) sm (amt (r1 (opp 3)).val) c,
    ← sum_tally 2 (.dma (r1 (opp 2))) sm (amt (r1 (opp 2)).val) c, ← sum_tally 1 (.dma (r1 (opp 1))) sm (amt (r1 (opp 1)).val) c]
  have e (k : Fin 4) := sum_tally k (.reg barrier0) sm 1 c
  refine Eq.trans ?_ (congrArg₂ (· + ·) (congrArg₂ (· + ·) (congrArg₂ (· + ·) rfl (e 3)) (e 2)) (e 1))
  rw [show (0 : ℕ) = ∑ d : Dev nD, (0 : CellTallies nD τ sig Unit) ((c : Thread nD τ), sm) () from Finset.sum_const_zero.symm]
  simp only [← Finset.sum_add_distrib]
  rfl

/-- The launch's credit on a cell. -/
theorem launch_at (c : Dev nD) (sm : SemLoc sig) (A : ℕ) (h : ∑ d : Dev nD, O₀ d ((c : Thread nD τ), sm) () = A) :
    tallyOn ((c : Thread nD τ), sm) (launchCredit (Pipeline.owing O₀) 0 ((c : Thread nD τ), sm))
      = (tallyAt ((c : Thread nD τ), sm) () A : CellTallies nD τ sig Unit) := by
  unfold tallyAt; refine congrArg _ (Finsupp.ext fun u => ?_); cases u
  rw [Pipeline.launchCredit_owing, Finsupp.single_eq_same, h]

theorem at_bar (c : Dev nD) : ∑ d : Dev nD, O₀ d ((c : Thread nD τ), .reg barrier0) () = 3 := by
  rw [owed_total, if_neg (by decide), if_neg (by decide), if_neg (by decide), if_neg (by decide), if_neg (by decide), if_neg (by decide),
    if_pos rfl]
theorem at_r11 (c : Dev nD) : ∑ d : Dev nD, O₀ d ((c : Thread nD τ), .dma (r1 1)) () = amt (r1 1 : Fin 20).val := by
  rw [owed_total, if_neg (by decide), if_neg (by decide), if_neg (by decide), if_pos (by decide), if_neg (by decide), if_neg (by decide), if_neg (by decide), show opp 3 = 1 from rfl]
  simp only [Nat.zero_add, Nat.add_zero]
theorem at_r12 (c : Dev nD) : ∑ d : Dev nD, O₀ d ((c : Thread nD τ), .dma (r1 2)) () = amt (r1 2 : Fin 20).val := by
  rw [owed_total, if_neg (by decide), if_neg (by decide), if_neg (by decide), if_neg (by decide), if_pos (by decide), if_neg (by decide), if_neg (by decide), show opp 2 = 2 from rfl]
  simp only [Nat.zero_add, Nat.add_zero]
theorem at_r13 (c : Dev nD) : ∑ d : Dev nD, O₀ d ((c : Thread nD τ), .dma (r1 3)) () = amt (r1 3 : Fin 20).val := by
  rw [owed_total, if_neg (by decide), if_neg (by decide), if_neg (by decide), if_neg (by decide), if_neg (by decide), if_pos (by decide), if_neg (by decide), show opp 1 = 3 from rfl]
  simp only [Nat.zero_add, Nat.add_zero]
theorem at_r21 (c : Dev nD) : ∑ d : Dev nD, O₀ d ((c : Thread nD τ), .dma (r2 1)) () = amt (r2 1 : Fin 20).val := by
  rw [owed_total, if_pos (by decide), if_neg (by decide), if_neg (by decide), if_neg (by decide), if_neg (by decide), if_neg (by decide), if_neg (by decide), show opp 3 = 1 from rfl]
  simp only [Nat.zero_add, Nat.add_zero]
theorem at_r22 (c : Dev nD) : ∑ d : Dev nD, O₀ d ((c : Thread nD τ), .dma (r2 2)) () = amt (r2 2 : Fin 20).val := by
  rw [owed_total, if_neg (by decide), if_pos (by decide), if_neg (by decide), if_neg (by decide), if_neg (by decide), if_neg (by decide), if_neg (by decide), show opp 2 = 2 from rfl]
  simp only [Nat.zero_add, Nat.add_zero]
theorem at_r23 (c : Dev nD) : ∑ d : Dev nD, O₀ d ((c : Thread nD τ), .dma (r2 3)) () = amt (r2 3 : Fin 20).val := by
  rw [owed_total, if_neg (by decide), if_neg (by decide), if_pos (by decide), if_neg (by decide), if_neg (by decide), if_neg (by decide), if_neg (by decide), show opp 1 = 3 from rfl]
  simp only [Nat.zero_add, Nat.add_zero]

/-- The cells a device waits on for the others. -/
def credCells : Finset (SemLoc sig) :=
  {.reg barrier0, .dma (r1 1), .dma (r1 2), .dma (r1 3), .dma (r2 1), .dma (r2 2), .dma (r2 3)}

theorem creds (c : Dev nD) : (Pipeline.launchCred O₀ c : sProp 𝕄) ⊢ credsOf (F := F) c := by
  unfold Pipeline.launchCred
  refine BI.Entails.trans (bigSep_subset (Finset.subset_univ credCells)) ?_
  rw [bigSep_eq_bigSepL_of_eq [.reg barrier0, .dma (r1 1), .dma (r1 2), .dma (r1 3), .dma (r2 1), .dma (r2 2), .dma (r2 3)] (by decide) (by decide)]
  unfold credsOf
  show iprop(cred _ ∗ cred _ ∗ cred _ ∗ cred _ ∗ cred _ ∗ cred _ ∗ cred _) ⊢ _
  rw [launch_at c _ _ (at_bar c), launch_at c _ _ (at_r11 c), launch_at c _ _ (at_r12 c), launch_at c _ _ (at_r13 c),
    launch_at c _ _ (at_r21 c), launch_at c _ _ (at_r22 c), launch_at c _ _ (at_r23 c)]
  iintro ⟨H0, H1, H2, H3, H4, H5, H6⟩
  isplitl [H0]; · iexact H0
  isplitl [H1 H2 H3]
  · isplitl [H1]; · iexact H1
    isplitl [H2] <;> iassumption
  isplitl [H4]; · iexact H4
  isplitl [H5] <;> iassumption

end Cert.KernelIdeal.Attn

end
-- ==== Proof.Main.lean ====
/-
  The run of the whole program on the four devices, over any float type: what every final state holds, in the contents of
  the arguments.
-/
module

public import proofs.«01_k».proof.Proof.Deal
public import Idealize.ShloMosaic.Harness.Basic

@[expose] public section

noncomputable section

namespace Cert.KernelIdeal.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

/-- The region's own launch element beside the ring's. -/
def u₀ : UU :=
  (initOf (Pipeline.cells (Pipeline.pin (pcfgs (F := F)) adm) Gen.cellOf_inj) (Pipeline.launchToks (Pipeline.pin (pcfgs (F := F)) adm) Gen.cellOf_inj),
    launchOf barCells scCells allToks)

/-- Something held on one device alone, seen as a family over the devices. -/
def onDev (c₀ : Dev nD) (X : sProp 𝕄) (c : Dev nD) : sProp 𝕄 := if c = c₀ then X else iprop(emp)
theorem all_onDev (c₀ : Dev nD) (X : sProp 𝕄) : bigSep Finset.univ (onDev c₀ X) = X := by
  have h0 (c : Dev nD) (hc : c ∈ Finset.univ.erase c₀) : onDev c₀ X c = (BI.emp : sProp 𝕄) := if_neg (Finset.ne_of_mem_erase hc)
  rw [bigSep_univ_at _ c₀, bigSep_congr h0, BI.bigSep_emp_const, show onDev c₀ X c₀ = X from if_pos rfl]
  exact BI.equiv_iff.mp sep_emp

/-- The ring's launch element waits on device 0. -/
def G : Dev nD → sProp 𝕄 := onDev 0 (BI.own (ER (launchOf barCells scCells allToks)))

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]
theorem unscoped_eq : ∀ sm : SemLoc sig, sm.isScoped .tc = false → sm = .reg barrier0 := by decide

/-- A device's share of the ring's ghost state. -/
def ghost (c : Dev nD) : sProp 𝕄 :=
  iprop(atPos ER (barCell c) 0 ∅ 0 ∗ (bigSep Finset.univ fun k : Fin 19 => openTok ER (ocell c k)) ∗ toksOf c)
/-- The rest of what it starts with. -/
def start (c : Dev nD) : sProp 𝕄 :=
  iprop(StableHlo.held (c : Thread nD τ) bufs (V₀ m c) ∗ credsOf c ∗ owes (c : Thread nD τ) (O₀ c) ∅ ∗ ∃ r, prngReg c r)

abbrev T₀ (c : Dev nD) : sProp 𝕄 := iprop(StableHlo.held (c : Thread nD τ) bufs (V₀ m c) ∗ R m c)

theorem T₀_intro (K : GSem nD τ sig → ℕ) (c : Dev nD) : iprop(recs (insM m) K ∗ (ghost c ∗ start m c)) ⊢ T₀ m c := by
  unfold ghost start T₀ R Tk owesX
  iintro ⟨#HR, ⟨Ha, Ho, Ht⟩, Hh, Hc, HO, Hp⟩
  isplitl [Hh]; · iexact Hh
  isplitl [Ha Ho Ht Hc]
  · isplitr; · iexists K; iexact HR
    isplitl [Ha]; · iexact Ha
    isplitl [Ho]; · iexact Ho
    isplitl [Ht] <;> iassumption
  isplitl [Hp]; · iexact Hp
  iexists ∅; iexact HO

/-- The launch, on all devices at once. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have h1 (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(start m c ∗ (semVal (barCell c) 0 ∗ G c)) : sProp 𝕄) := by
    rw [show unscopedBufs c (fun b => m ((c : Thread nD τ).loc b)) = StableHlo.held (c : Thread nD τ) bufs (V₀ m c) from unscopedBufs_held c (V₀ m c),
      unscopedSems_eq]
    unfold start
    iintro ⟨Hh, Hs, HO, Hcr, Hp, HG⟩
    ihave Hc := (creds (F := F) c) $$ Hcr
    isplitr [Hs HG]
    · isplitl [Hh]; · iexact Hh
      isplitl [Hc]; · iexact Hc
      isplitl [HO]; · iexact HO
      iexists (ρ c); iexact Hp
    isplitl [Hs] <;> iassumption
  have h2 : bigSep Finset.univ (fun c : Dev nD => (semVal (barCell c) 0 : sProp 𝕄)) ⊢ bigSep barCells (fun g => (semVal g 0 : sProp 𝕄)) :=
    BI.BIBase.Entails.of_eq (bigSep_map (s := Finset.univ) barEmb (Φ := fun g : GSem nD τ sig => (semVal g 0 : sProp 𝕄))).symm
  have h3 : bigSep barCells (fun g => (atPos ER g 0 ∅ 0 : sProp 𝕄)) ⊢ bigSep Finset.univ (fun c : Dev nD => (atPos ER (barCell c) 0 ∅ 0 : sProp 𝕄)) :=
    BI.BIBase.Entails.of_eq (bigSep_map (s := Finset.univ) barEmb (Φ := fun g : GSem nD τ sig => (atPos ER g 0 ∅ 0 : sProp 𝕄)))
  have h4 : bigSep scCells (fun g => (openTok ER g : sProp 𝕄))
      ⊢ bigSep Finset.univ (fun c : Dev nD => bigSep Finset.univ fun k : Fin 19 => (openTok ER (ocell c k) : sProp 𝕄)) :=
    BI.BIBase.Entails.of_eq (by rw [bigSep_map, bigSep_univ_prod]; rfl)
  have h5 : bigSep allToks (fun x => (dutyTok ER x.1 x.2.1 x.2.2 : sProp 𝕄)) ⊢ bigSep Finset.univ fun c : Dev nD => toksOf (F := F) c :=
    BI.Entails.trans toks_eq toks_around
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(start m c ∗ (semVal (barCell c) 0 ∗ G c)) : sProp 𝕄) from bigSep_mono fun c _ => h1 c) $$ H
  ihave H2 := (BI.BIBase.Entails.of_eq (bigSep_sep' Finset.univ (fun c : Dev nD => start m c) (fun c => iprop(semVal (barCell c) 0 ∗ G c)))) $$ H'
  icases H2 with ⟨HS, H3⟩
  ihave H4 := (BI.BIBase.Entails.of_eq (bigSep_sep' Finset.univ (fun c : Dev nD => (semVal (barCell c) 0 : sProp 𝕄)) (fun c => G c))) $$ H3
  icases H4 with ⟨Hv, HG⟩
  ihave Hu := (show bigSep Finset.univ (G (F := F)) ⊢ BI.own (ER (launchOf barCells scCells allToks)) from
    BI.BIBase.Entails.of_eq (all_onDev (F := F) 0 (BI.own (ER (launchOf barCells scCells allToks))))) $$ HG
  imod (Rounds.fund_launch ER (rd (insM m)) disjoint_cells (fun g _ h => h) allToks) $$ [Hv Hu] with ⟨%K, -, #Hinv, #Hr, Hat, Hopen, Htok⟩
  · isplitl [Hv]
    · iapply h2 $$ Hv
    · iexact Hu
  imodintro
  iapply (bigSep_with_persistent (R := recs (insM m) K) (Φ := fun c => iprop(ghost c ∗ start m c)) fun c _ => T₀_intro m K c)
  isplitr
  · unfold recs
    isplitr; · iexact Hinv
    iexact Hr
  rw [bigSep_sep']
  isplitr [HS]
  · unfold ghost
    rw [bigSep_sep', bigSep_sep']
    isplitl [Hat]; · iapply h3 $$ Hat
    isplitl [Hopen]; · iapply h4 $$ Hopen
    iapply h5 $$ Htok
  · iexact HS

/-! ## The contents at the end -/

/-- After the reshape of the result. -/
abbrev V₃ (c : Dev nD) : Valuation τ sig (Elt F) := StableHlo.after hostOps1 (V₂ m c)
abbrev Tₙ (c : Dev nD) : sProp 𝕄 := iprop(StableHlo.held (c : Thread nD τ) bufs (V₃ m c) ∗ semVal (barCell c) 0)

theorem held_list (c : Dev nD) (W : Valuation τ sig (Elt F)) : (StableHlo.held (c : Thread nD τ) bufs W : sProp 𝕄)
    = iprop(pt c main_arg0 (W (Proc.devRef .tc main_arg0)) ∗ pt c main_arg1 (W (Proc.devRef .tc main_arg1)) ∗ pt c main_arg2 (W (Proc.devRef .tc main_arg2))
      ∗ pt c main_arg3 (W (Proc.devRef .tc main_arg3)) ∗ pt c main_arg4 (W (Proc.devRef .tc main_arg4))
      ∗ pt c main_v1 (W (Proc.devRef .tc main_v1)) ∗ pt c main_v2 (W (Proc.devRef .tc main_v2)) ∗ pt c main_v3 (W (Proc.devRef .tc main_v3))
      ∗ pt c main_v4 (W (Proc.devRef .tc main_v4)) ∗ pt c main_v5 (W (Proc.devRef .tc main_v5))) := by
  unfold StableHlo.held bufs
  rw [bigSep_eq_bigSepL_of_eq [Proc.devRef .tc main_arg0, Proc.devRef .tc main_arg1, Proc.devRef .tc main_arg2, Proc.devRef .tc main_arg3, Proc.devRef .tc main_arg4,
    Proc.devRef .tc main_v1, Proc.devRef .tc main_v2, Proc.devRef .tc main_v3, Proc.devRef .tc main_v4, Proc.devRef .tc main_v5] (by decide) (by decide)]
  rfl

theorem finalO_eq (c : Dev nD) : finalO m c = outV (insM m) c := by
  have h : (win0_0.blk (0 : Fin 1)).view.read (Elt F) (finalO m c) = outV (insM m) c := by
    unfold finalO
    rw [show cfg0.N = ((0 : Fin 1) : Fin cfg0.N).val + 1 from rfl, (dat m c).arrAt_succ (0 : Fin 1) (0 : Fin 1)]
    rw [show (cfg0.win (0 : Fin 1)).flush (0 : Fin 1) = true from by decide, if_pos rfl]
    exact View.read_write_univ _ _
  have hz : (fun a => (win0_0.index (0 : Fin 1)) a * main_v4.ty.shape.size a) = fun _ => 0 := funext fun a => by fin_cases a <;> decide
  have hr := Memref.read_access_unit_zero (Elt F) main_v4 hz (fun a => by fin_cases a <;> decide) (finalO m c)
  exact hr.symm.trans h

theorem V₁_arg0 (c : Dev nD) : V₁ m c (Proc.devRef .tc main_arg0) = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V₃_arg0 (c : Dev nD) : V₃ m c (Proc.devRef .tc main_arg0) = m ((c : Thread nD τ).loc main_arg0) :=
  (StableHlo.after_of_forall_not_mem (b := Proc.devRef .tc main_arg0) _ _ (List.forall_iff_forall_mem.mp (by
    simp only [hostOps1, List.Forall, StableHlo.reshape_writes, Finset.mem_singleton]
    all_goals exact StableHlo.devRef_ne_of_ne (by decide)))).trans ((V₂_ne m c _ (by decide)).trans (V₁_arg0 m c))
theorem V₁_arg1 (c : Dev nD) : V₁ m c (Proc.devRef .tc main_arg1) = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V₃_arg1 (c : Dev nD) : V₃ m c (Proc.devRef .tc main_arg1) = m ((c : Thread nD τ).loc main_arg1) :=
  (StableHlo.after_of_forall_not_mem (b := Proc.devRef .tc main_arg1) _ _ (List.forall_iff_forall_mem.mp (by
    simp only [hostOps1, List.Forall, StableHlo.reshape_writes, Finset.mem_singleton]
    all_goals exact StableHlo.devRef_ne_of_ne (by decide)))).trans ((V₂_ne m c _ (by decide)).trans (V₁_arg1 m c))
theorem V₁_arg2 (c : Dev nD) : V₁ m c (Proc.devRef .tc main_arg2) = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V₃_arg2 (c : Dev nD) : V₃ m c (Proc.devRef .tc main_arg2) = m ((c : Thread nD τ).loc main_arg2) :=
  (StableHlo.after_of_forall_not_mem (b := Proc.devRef .tc main_arg2) _ _ (List.forall_iff_forall_mem.mp (by
    simp only [hostOps1, List.Forall, StableHlo.reshape_writes, Finset.mem_singleton]
    all_goals exact StableHlo.devRef_ne_of_ne (by decide)))).trans ((V₂_ne m c _ (by decide)).trans (V₁_arg2 m c))
theorem V₁_arg3 (c : Dev nD) : V₁ m c (Proc.devRef .tc main_arg3) = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V₃_arg3 (c : Dev nD) : V₃ m c (Proc.devRef .tc main_arg3) = m ((c : Thread nD τ).loc main_arg3) :=
  (StableHlo.after_of_forall_not_mem (b := Proc.devRef .tc main_arg3) _ _ (List.forall_iff_forall_mem.mp (by
    simp only [hostOps1, List.Forall, StableHlo.reshape_writes, Finset.mem_singleton]
    all_goals exact StableHlo.devRef_ne_of_ne (by decide)))).trans ((V₂_ne m c _ (by decide)).trans (V₁_arg3 m c))
theorem V₁_arg4 (c : Dev nD) : V₁ m c (Proc.devRef .tc main_arg4) = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
theorem V₃_arg4 (c : Dev nD) : V₃ m c (Proc.devRef .tc main_arg4) = m ((c : Thread nD τ).loc main_arg4) :=
  (StableHlo.after_of_forall_not_mem (b := Proc.devRef .tc main_arg4) _ _ (List.forall_iff_forall_mem.mp (by
    simp only [hostOps1, List.Forall, StableHlo.reshape_writes, Finset.mem_singleton]
    all_goals exact StableHlo.devRef_ne_of_ne (by decide)))).trans ((V₂_ne m c _ (by decide)).trans (V₁_arg4 m c))

/-- The result is the kernel's, reshaped. -/
theorem V₃_v5 (c : Dev nD) : V₃ m c (Proc.devRef .tc main_v5) = fun i => shapeCast S2x128x512 (outV (insM m) c) shapeCasts_S256x512_S2x128x512 i := by
  show StableHlo.after [_] (V₂ m c) (Proc.devRef .tc main_v5) = _
  rw [StableHlo.after_cons, StableHlo.after_nil, StableHlo.reshape_result', V₂_out, finalO_eq]
  rfl

/-! ## The run -/

set_option backward.isDefEq.respectTransparency.types false in
/-- From any memory with zero counters every weakly fair run of the program on the four devices ends, the arguments as they were,
    the result the attention of the arguments, every semaphore at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v5) = V₃ m c (Proc.devRef .tc main_v5)) ∧ r.2.sem = fun _ => 0) :=
  Pipeline.θ_run_regions_kit_sems (pcfgs (F := F)) adm (pdats m) () Gen.cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [all_onDev]; iexact HX)
    (T₀ := T₀ m) (Tₙ := Tₙ m)
    (hch := by
      refine ⟨fun c => .rfl, fun c => reg_pre m c, fun c => reg_post m c, fun c => ?_⟩
      show iprop(StableHlo.held (c : Thread nD τ) bufs (V₃ m c) ∗ (semVal (barCell c) 0 ∗ owesX c 0))
        ⊢ iprop(Tₙ m c ∗ ∃ W, owes (c : Thread nD τ) (0 : CellTallies nD τ sig Unit) W)
      unfold owesX
      iintro ⟨Hh, Hb, HO⟩
      isplitr [HO]
      · isplitl [Hh] <;> iassumption
      · iexact HO)
    (hinit := init m ρ)
    (QY := fun c s => ((s.mem ((Memref.whole main_arg0).view.loc (c : Thread nD τ)) = V₃ m c (Proc.devRef .tc main_arg0)
        ∧ s.mem ((Memref.whole main_arg1).view.loc (c : Thread nD τ)) = V₃ m c (Proc.devRef .tc main_arg1)
        ∧ s.mem ((Memref.whole main_arg2).view.loc (c : Thread nD τ)) = V₃ m c (Proc.devRef .tc main_arg2)
        ∧ s.mem ((Memref.whole main_arg3).view.loc (c : Thread nD τ)) = V₃ m c (Proc.devRef .tc main_arg3)
        ∧ s.mem ((Memref.whole main_arg4).view.loc (c : Thread nD τ)) = V₃ m c (Proc.devRef .tc main_arg4))
        ∧ s.mem ((Memref.whole main_v5).view.loc (c : Thread nD τ)) = V₃ m c (Proc.devRef .tc main_v5))
      ∧ s.sem (barCell c) = 0)
    (hfin := fun c s' => by
      dsimp only [Tₙ]; rw [held_list]
      iintro ⟨⟨⟨H0, H1, H2, H3, H4, -, -, -, -, H5⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨⟨Buf.eq_of_forall_mem_univ h0, Buf.eq_of_forall_mem_univ h1, Buf.eq_of_forall_mem_univ h2, Buf.eq_of_forall_mem_univ h3,
          Buf.eq_of_forall_mem_univ h4⟩, Buf.eq_of_forall_mem_univ h5⟩, by simpa using hb⟩
      iexact HSI)
    (hQ := fun s h hs => ⟨fun c => by
        obtain ⟨⟨⟨h0, h1, h2, h3, h4⟩, h5⟩, -⟩ := h c
        rw [V₃_arg0] at h0; rw [V₃_arg1] at h1; rw [V₃_arg2] at h2; rw [V₃_arg3] at h3; rw [V₃_arg4] at h4
        exact ⟨⟨h0, h1, h2, h3, h4⟩, h5⟩,
      sem_eq_zero hs fun c sm hsm => by
        obtain rfl := unscoped_eq sm hsm
        exact (h c).2⟩)

end Cert.KernelIdeal.Attn

end
-- ==== Proof.Frames.lean ====
/-
  The frames of the kernel's two readings and of the reference.
-/
module

public import proofs.«01_k».proof.Defs
public import proofs.«01_k».proof.Proof.Main
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The two printed kernels have the same body table: the second is printed from the first without a rewrite. -/
theorem defs₀_same : (Cert.Kernel.defs₀ (F := Bits)) = (Cert.KernelIdeal.defs₀ (F := Bits)) := by
  unfold Cert.Kernel.defs₀ Cert.KernelIdeal.defs₀
  refine congrArg Defs.onTc ?_
  funext l a
  match l, a with
  | 0, (t, s) => rfl
/-- And the same table with the regions. -/
theorem defs_same : (Cert.Kernel.defs (F := Bits)) = (Cert.KernelIdeal.defs (F := Bits)) :=
  congrArg (Pipeline.defs (Cert.KernelIdeal.pcfgs (F := Bits))) defs₀_same

/-- The kernel on words. -/
theorem frame_kernel : Cert.quiescent_Kernel := by
  intro m ρ _
  have h := Cert.KernelIdeal.Attn.run_main (F := Bits) m ρ
  rw [← defs_same] at h
  exact (θ_run Cert.Kernel.defs _ _).mono (fun _ h => ⟨fun c => (h.1 c).1, h.2⟩) h

/-- The kernel on extended reals. -/
theorem frame_ideal : Cert.quiescent_KernelIdeal := fun m ρ _ =>
  (θ_run Cert.KernelIdeal.defs _ _).mono (fun _ h => ⟨fun c => (h.1 c).1, h.2⟩) (Cert.KernelIdeal.Attn.run_main (F := Ideal) m ρ)

/-- The reference: host operations, no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Alg.lean ====
/-
  Arithmetic over the extended reals the value claim rests on: sums of reals, a positive real factor of a sum, the largest of
  finitely many reals, and that a softmax does not depend on what is subtracted from its scores.
-/
module

public import Idealize.ShloMosaic.Lib.Pointwise

@[expose] public section

noncomputable section

namespace Cert.Alg

open Idealize.ShloMosaic

/-- The scale of the scores is an eighth. -/
theorem scale_eq : Ideal.ofBits .f32 0x3E000000#32 = ((1 / 8 : ℝ) : EReal) := by
  simp [Ideal.ofBits, Ideal.ieee, -EReal.coe_mul]
  norm_num
/-- What the running maximum starts at is the least extended real. -/
theorem low_eq : Ideal.ofBits .f32 0xFF800000#32 = (⊥ : EReal) := by
  simp [Ideal.ofBits, Ideal.ieee]
/-- What a finite magnitude stays below is the greatest extended real. -/
theorem inf_eq : Ideal.ofBits .f32 0x7F800000#32 = (⊤ : EReal) := by
  simp [Ideal.ofBits, Ideal.ieee]

/-- Column `64 h + e`: entry `e` of head `h`. -/
def hcol (h : Fin 8) (e : Fin 64) : Fin 512 := ⟨64 * h.val + e.val, by omega⟩

/-- A sum over the columns is a sum over the heads and their entries. -/
theorem sum_hcol (f : Fin 512 → EReal) : ∑ t : Fin 512, f t = ∑ h : Fin 8, ∑ e : Fin 64, f (hcol h e) := by
  rw [← Fintype.sum_prod_type']
  refine (Equiv.sum_comp (finProdFinEquiv : Fin 8 × Fin 64 ≃ Fin (8 * 64)) f).symm.trans (Finset.sum_congr rfl fun p _ => ?_)
  exact congrArg f (Fin.ext (Nat.add_comm _ _))

variable {ι : Type} (t : Finset ι)

/-- A sum of reals, seen in the extended reals. -/
theorem coe_sum (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A nonnegative real factor of a sum goes to its terms, whatever these are. -/
theorem coe_mul_sum (a : ℝ) (ha : 0 ≤ a) (f : ι → EReal) : (a : EReal) * ∑ i ∈ t, f i = ∑ i ∈ t, (a : EReal) * f i := by
  classical
  induction t using Finset.induction_on with
  | empty => simp
  | insert b t hb ih =>
    rw [Finset.sum_insert hb, Finset.sum_insert hb,
      EReal.left_distrib_of_nonneg_of_ne_top (EReal.coe_nonneg.mpr ha) (EReal.coe_ne_top a), ih]

/-- The largest of finitely many reals is a real. -/
theorem max_real {n : ℕ} (hn : 0 < n) (s : Fin n → ℝ) :
    ∃ μ : ℝ, max (⊥ : EReal) (Finset.fold max ⊥ (fun j => (s j : EReal)) Finset.univ) = μ := by
  obtain ⟨j, -, h⟩ := Finset.exists_mem_eq_sup (Finset.univ : Finset (Fin n)) ⟨⟨0, hn⟩, Finset.mem_univ _⟩ (fun j => (s j : EReal))
  exact ⟨s j, (max_eq_right bot_le).trans h⟩

/-- The softmax of real scores times any values: what is subtracted from the scores cancels. -/
theorem softmax_shift {n : ℕ} (hn : 0 < n) (s : Fin n → ℝ) (v : Fin n → EReal) (μ : ℝ) :
    Ideal.div (∑ j, v j * Ideal.exp ((s j : EReal) - (μ : EReal))) (∑ j, Ideal.exp ((s j : EReal) - (μ : EReal)))
      = (∑ j, Ideal.exp (s j : EReal) * v j) * Ideal.div 1 (∑ j, Ideal.exp (s j : EReal)) := by
  have hne : (Finset.univ : Finset (Fin n)).Nonempty := ⟨⟨0, hn⟩, Finset.mem_univ _⟩
  have hγ : 0 < Real.exp (-μ) := Real.exp_pos _
  have hL : 0 < ∑ j, Real.exp (s j) := Finset.sum_pos (fun j _ => Real.exp_pos _) hne
  have he : ∀ j, Ideal.exp ((s j : EReal) - (μ : EReal)) = (Real.exp (-μ) : EReal) * (Real.exp (s j) : EReal) := fun j => by
    rw [← EReal.coe_sub, Ideal.exp_coe, ← EReal.coe_mul, ← Real.exp_add, neg_add_eq_sub]
  have h1 : ∑ j, v j * Ideal.exp ((s j : EReal) - (μ : EReal)) = (Real.exp (-μ) : EReal) * ∑ j, (Real.exp (s j) : EReal) * v j := by
    rw [coe_mul_sum _ _ hγ.le]
    exact Finset.sum_congr rfl fun j _ => by rw [he, mul_comm, mul_assoc]
  have h2 : ∑ j, Ideal.exp ((s j : EReal) - (μ : EReal)) = ((Real.exp (-μ) * ∑ j, Real.exp (s j) : ℝ) : EReal) := by
    rw [EReal.coe_mul, coe_sum, coe_mul_sum _ _ hγ.le]
    exact Finset.sum_congr rfl fun j _ => he j
  have h3 : ∑ j, Ideal.exp (s j : EReal) = ((∑ j, Real.exp (s j) : ℝ) : EReal) := by
    rw [coe_sum]
    rfl
  rw [h1, h2, h3, Ideal.div_coe (mul_pos hγ hL).ne', Ideal.div_coe hL.ne', one_mul]
  rw [show (1 / (Real.exp (-μ) * ∑ j, Real.exp (s j)) : ℝ) = (Real.exp (-μ))⁻¹ * (1 / ∑ j, Real.exp (s j)) from by
    rw [one_div, mul_inv, one_div]]
  rw [EReal.coe_mul, mul_mul_mul_comm, ← EReal.coe_mul, mul_inv_cancel₀ hγ.ne', EReal.coe_one, one_mul]
  rfl

/-- A score: scaling the query first, or the product with the key last, is the same on reals. -/
theorem score_scale {n : ℕ} (q k : Fin n → ℝ) (a : ℝ) :
    ∑ e, ((q e : EReal) * (a : EReal)) * (k e : EReal) = (∑ e, (q e : EReal) * (k e : EReal)) * (a : EReal)
      ∧ (∑ e, (q e : EReal) * (k e : EReal)) * (a : EReal) = (((∑ e, q e * k e) * a : ℝ) : EReal) := by
  have h : (∑ e, (q e : EReal) * (k e : EReal)) * (a : EReal) = (((∑ e, q e * k e) * a : ℝ) : EReal) := by
    rw [EReal.coe_mul, coe_sum]
    rfl
  refine ⟨?_, h⟩
  rw [h, Finset.sum_mul, coe_sum]
  refine Finset.sum_congr rfl fun e _ => ?_
  rw [← EReal.coe_mul, ← EReal.coe_mul]
  congr 1
  ring

/-- A product of reals summed is a real. -/
theorem dot_real {n : ℕ} (f g : Fin n → ℝ) : ∑ e, (f e : EReal) * (g e : EReal) = ((∑ e, f e * g e : ℝ) : EReal) := by
  rw [coe_sum]
  rfl

end Cert.Alg
end
-- ==== Proof.Pre1.lean ====
/-
  What the precondition says: `x`, `Wq` and every device's block of the keys hold reals.
-/
module

public import proofs.«01_k».proof.Pre_finite_scores_KernelIdeal
public import proofs.«01_k».proof.Pre_finite_scores_ReferenceIdeal
public import proofs.«01_k».proof.Proof.Alg
public import Idealize.ShloMosaic.Lib.ReduceAll

@[expose] public section

noncomputable section

namespace Cert.Pre_finite_scores_KernelIdeal.Gen

open Idealize.ShloMosaic Cert.Pre_finite_scores_KernelIdeal

/-- The shape relations the precondition's operations take, over the kernel's arguments. -/
instance facts : Facts where
  bcast_S_S2x128x512 := by decide
  reducesTo_S2x128x512_S_d0_1_2 := by decide
  h_S_ := by decide
  bcast_S_S512x512 := by decide
  reducesTo_S512x512_S_d0_1 := by decide
  bcast_S_S2x128x8x64 := by decide
  reducesTo_S2x128x8x64_S_d0_1_2_3 := by decide

/-- An extended real whose magnitude is below the greatest one is a real. -/
theorem real_of_lt (a : EReal) (h : Ideal.cmp .olt (max a (-a)) (Ideal.ofBits .f32 0x7F800000#32) = 1#1) : a = (a.toReal : EReal) := by
  rw [Cert.Alg.inf_eq] at h
  refine (EReal.coe_toReal ?_ ?_).symm
  · rintro rfl
    simp [Ideal.cmp] at h
  · rintro rfl
    simp [Ideal.cmp] at h

/-- A word that is the meet of two is one exactly when both are. -/
theorem meet_one (a b : BitVec 1) (h : IntOp.andi a b = 1#1) : a = 1#1 ∧ b = 1#1 := by
  revert a b
  decide

/-- The precondition gives reals. -/
theorem reals (x : FVec Ideal S2x128x512 .f32) (wq wo : FVec Ideal S512x512 .f32) (k v : FVec Ideal S2x128x8x64 .f32)
    (h : fn (F := Ideal) x wq wo k v = fun _ => 1#1) :
    (∀ p, x p = ((x p).toReal : EReal)) ∧ (∀ p, wq p = ((wq p).toReal : EReal)) ∧ ∀ p, k p = ((k p).toReal : EReal) := by
  have h0 := congrFun h ix0
  dsimp only [fn] at h0
  haveI : Subsingleton S_.Idx := ⟨fun a b => funext fun d => d.elim0⟩
  obtain ⟨h1, h3⟩ := meet_one _ _ h0
  obtain ⟨h1, h2⟩ := meet_one _ _ h1
  refine ⟨fun p => real_of_lt _ ?_, fun p => real_of_lt _ ?_, fun p => real_of_lt _ ?_⟩
  · exact Host.reduce_andi_all _ _ _ _ _ h1 p
  · exact Host.reduce_andi_all _ _ _ _ _ h2 p
  · exact Host.reduce_andi_all _ _ _ _ _ h3 p

end Cert.Pre_finite_scores_KernelIdeal.Gen

namespace Cert.Pre_finite_scores_ReferenceIdeal.Gen

open Idealize.ShloMosaic Cert.Pre_finite_scores_ReferenceIdeal

/-- The shape relations the precondition's operations take, over the reference's arguments. -/
instance facts : Facts where
  bcast_S_S2x128x512 := by decide
  reducesTo_S2x128x512_S_d0_1_2 := by decide
  h_S_ := by decide
  bcast_S_S512x512 := by decide
  reducesTo_S512x512_S_d0_1 := by decide
  bcast_S_S2x512x8x64 := by decide
  reducesTo_S2x512x8x64_S_d0_1_2_3 := by decide

end Cert.Pre_finite_scores_ReferenceIdeal.Gen
end
-- ==== Proof.Val1.lean ====
/-
  The values the kernel's vector operations compute, read index by index over the extended reals: the scaled queries, the
  mask, and a device's packed partial result.
-/
module

public import proofs.«01_k».proof.Proof.Common
public import proofs.«01_k».proof.Proof.Alg

@[expose] public section

set_option maxRecDepth 16384

noncomputable section

namespace Cert.KernelIdeal.Attn

open Idealize.ShloMosaic
open Idealize.ShloMosaic.TcCoe
open Cert.KernelIdeal Cert.KernelIdeal.Gen Cert.Alg

variable (I : Ins Ideal) (c : Dev nD)

/-- A query is a row of `x` times a column of `Wq`, scaled. -/
theorem qV_apply (r : Fin 256) (t : Fin 512) :
    qV I c (ix2 r t) = (∑ k : Fin 512, I.x c (ix2 r k) * I.wq c (ix2 k t)) * Ideal.ofBits .f32 0x3E000000#32 := by
  pointwise [qV, k0_pay3, k0_pay2]

/-- The batch entry of a row, as the kernel computes it from the row's number. -/
def batchW (n : Nat) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 128#32 0#32))
          (Scalar.extui (Scalar.cmpi CmpIPredicate.slt 128#32 0#32))))
      (IntOp.cmpi CmpIPredicate.ne (IntOp.remsi ArithUnit.vector (BitVec.ofNat 32 n) 128#32) 0#32))
    (IntOp.subi (IntOp.divsi ArithUnit.vector (BitVec.ofNat 32 n) 128#32) 1#32)
    (IntOp.divsi ArithUnit.vector (BitVec.ofNat 32 n) 128#32)

/-- It is the row's number divided by 128. -/
theorem batchW_eq : ∀ n : Fin 256, batchW n.val = BitVec.ofNat 32 (n.val / 128) := by decide +kernel

/-- Whether two batch entries are one, as a number. -/
theorem same_batch : ∀ a b : Fin 2, (FloatOps.sitofp (F := Ideal) FTy.f32
    (BitVec.setWidth 32 (IntOp.cmpi CmpIPredicate.eq (BitVec.ofNat 32 a.val) (BitVec.ofNat 32 b.val))) : EReal) = if a.val = b.val then 1 else 0 := by
  intro a b
  have h : BitVec.setWidth 32 (IntOp.cmpi CmpIPredicate.eq (BitVec.ofNat 32 a.val) (BitVec.ofNat 32 b.val)) = if a.val = b.val then 1#32 else 0#32 := by
    revert a b; decide +kernel
  rw [h]
  split
  · change ((((1#32).toInt : ℤ) : ℝ) : EReal) = 1
    norm_num
  · change ((((0#32).toInt : ℤ) : ℝ) : EReal) = 0
    norm_num

/-- The mask is one on a query and a key of the same batch entry, zero elsewhere. -/
theorem maskV_apply (r s : Fin 256) : maskV (F := Ideal) (ix2 r s) = if r.val / 128 = s.val / 128 then 1 else 0 := by
  pointwise [maskV, k0_pay8, k0_pay5, k0_pay6, k0_pay7, iota70]
  change FloatOps.sitofp (F := Ideal) FTy.f32 (BitVec.setWidth 32 (IntOp.cmpi CmpIPredicate.eq (batchW r.val) (batchW s.val))) = _
  rw [batchW_eq, batchW_eq]
  exact same_batch ⟨r.val / 128, by omega⟩ ⟨s.val / 128, by omega⟩

/-- The weight of key row `s` for query row `r` in head `h`: the exponential of their product, masked. -/
def wgt (h : Fin 8) (r s : Fin 256) : EReal :=
  Ideal.exp (∑ e : Fin 64, qV I c (ix2 r (hcol h e)) * I.k c (ix2 s (hcol h e))) * maskV (F := Ideal) (ix2 r s)

/-- A denominator, whichever of the payloads computes it. -/
theorem den_apply (r : Fin 256) :
    k0_pay12 (qV I c) iota70 k0_pay5 128#32 k0_pay6 k0_pay7 w105 w107 (I.k c) (ix2 r 0) = ∑ s : Fin 256, wgt I c 0 r s
      ∧ k0_pay15 (qV I c) iota70 k0_pay5 128#32 k0_pay6 k0_pay7 w105 w107 (I.k c) (ix2 r 0) = ∑ s : Fin 256, wgt I c 1 r s
      ∧ k0_pay20 (qV I c) maskV (kbV I c) (ix2 r 0) = ∑ s : Fin 256, wgt I c 2 r s
      ∧ k0_pay23 (qV I c) maskV (kbV I c) (ix2 r 0) = ∑ s : Fin 256, wgt I c 3 r s
      ∧ k0_pay26 (qV I c) maskV (kbV I c) (ix2 r 0) = ∑ s : Fin 256, wgt I c 4 r s
      ∧ k0_pay29 (qV I c) maskV (kbV I c) (ix2 r 0) = ∑ s : Fin 256, wgt I c 5 r s
      ∧ ∑ s : Fin 256, k0_pay32 (qV I c) maskV (kbV I c) (ix2 r s) = ∑ s : Fin 256, wgt I c 6 r s
      ∧ ∑ s : Fin 256, k0_pay33 (qV I c) maskV (kbV I c) (ix2 r s) = ∑ s : Fin 256, wgt I c 7 r s := by
  refine ⟨?_, ?_, ?_, ?_, ?_, ?_, ?_, ?_⟩
  · pointwise [k0_pay12, k0_pay11, k0_pay9, wgt, hcol]
    rfl
  · pointwise [k0_pay15, k0_pay14, k0_pay9, wgt, hcol]
    rfl
  · pointwise [k0_pay20, k0_pay19, kbV, k0_pay9, wgt, hcol]
  · pointwise [k0_pay23, k0_pay22, kbV, k0_pay9, wgt, hcol]
  · pointwise [k0_pay26, k0_pay25, kbV, k0_pay9, wgt, hcol]
  · pointwise [k0_pay29, k0_pay28, kbV, k0_pay9, wgt, hcol]
  · pointwise [k0_pay32, kbV, k0_pay9, wgt, hcol]
  · pointwise [k0_pay33, kbV, k0_pay9, wgt, hcol]

/-- The denominators: the sum of the weights. -/
theorem locB_apply (h : Fin 8) (r : Fin 256) : locB I c (ix2 r h) = ∑ s : Fin 256, wgt I c h r s := by
  obtain ⟨h0, h1, h2, h3, h4, h5, h6, h7⟩ := den_apply I c r
  pointwise [locB, k0_pay35]
  fin_vals h with hk <;> simp only [hk, Nat.reduceSub, Nat.reduceLT, ↓reduceDIte]
  · obtain rfl : h = 0 := Fin.ext hk
    exact h0
  · obtain rfl : h = 1 := Fin.ext hk
    exact h1
  · obtain rfl : h = 2 := Fin.ext hk
    exact h2
  · obtain rfl : h = 3 := Fin.ext hk
    exact h3
  · obtain rfl : h = 4 := Fin.ext hk
    exact h4
  · obtain rfl : h = 5 := Fin.ext hk
    exact h5
  · obtain rfl : h = 6 := Fin.ext hk
    exact h6
  · obtain rfl : h = 7 := Fin.ext hk
    exact h7

/-- The unnormalised outputs of one head. -/
def numV (h : Fin 8) (r : Fin 256) (e : Fin 64) : EReal := ∑ s : Fin 256, wgt I c h r s * I.v c (ix2 s (hcol h e))

/-- The pieces of the outputs, one a head, whichever of the payloads computes them. -/
theorem num_apply (r : Fin 256) (e : Fin 64) :
    k0_pay13 (qV I c) iota70 k0_pay5 128#32 k0_pay6 k0_pay7 w105 w107 (I.k c) (I.v c) (ix2 r e) = numV I c 0 r e
      ∧ k0_pay18 (k0_pay16 (qV I c) iota70 k0_pay5 128#32 k0_pay6 k0_pay7 w105 w107 (I.k c)) (k0_pay17 (I.v c)) zero64 (ix2 r e) = numV I c 1 r e
      ∧ k0_pay21 (qV I c) maskV (kbV I c) (vbV I c) (ix2 r e) = numV I c 2 r e
      ∧ k0_pay24 (qV I c) maskV (kbV I c) (vbV I c) (ix2 r e) = numV I c 3 r e
      ∧ k0_pay27 (qV I c) maskV (kbV I c) (vbV I c) (ix2 r e) = numV I c 4 r e := by
  refine ⟨?_, ?_, ?_, ?_, ?_⟩
  · pointwise [k0_pay13, k0_pay11, k0_pay9, k0_pay10, numV, wgt, hcol]
    rfl
  · pointwise [k0_pay18, k0_pay17, k0_pay16, k0_pay14, k0_pay9, k0_pay10, zero64, numV, wgt, hcol]
    rfl
  · pointwise [k0_pay21, k0_pay19, kbV, vbV, k0_pay9, k0_pay10, numV, wgt, hcol]
  · pointwise [k0_pay24, k0_pay22, kbV, vbV, k0_pay9, k0_pay10, numV, wgt, hcol]
  · pointwise [k0_pay27, k0_pay25, kbV, vbV, k0_pay9, k0_pay10, numV, wgt, hcol]

/-- Eight pieces of 256 rows and 64 columns side by side, read at a column of head `h`. -/
theorem cat256_apply (f0 f1 f2 f3 f4 f5 f6 f7 : FVec Ideal S256x64 .bf16) (h : Fin 8) (r : Fin 256) (e : Fin 64) :
    concatenate S256x512 1 [⟨S256x64, f0⟩, ⟨S256x64, f1⟩, ⟨S256x64, f2⟩, ⟨S256x64, f3⟩, ⟨S256x64, f4⟩, ⟨S256x64, f5⟩, ⟨S256x64, f6⟩, ⟨S256x64, f7⟩] concatenates_S256x64_S256x64_S256x64_S256x64_S256x64_S256x64_S256x64_S256x64_S256x512_d1 (ix2 r (hcol h e))
      = (![f0, f1, f2, f3, f4, f5, f6, f7] : Fin 8 → FVec Ideal S256x64 .bf16) h (ix2 r e) := by
  pointwise []
  have he := e.isLt
  fin_vals h with hk
  · obtain rfl : h = 0 := Fin.ext hk
    rw [dif_pos (by simp [hcol] <;> omega)]
    exact congrArg f0 (congrArg (ix2 r) (Fin.ext (by simp [hcol] <;> omega)))
  · obtain rfl : h = 1 := Fin.ext hk
    rw [dif_neg (by simp [hcol] <;> omega), dif_pos (by simp [hcol] <;> omega)]
    exact congrArg f1 (congrArg (ix2 r) (Fin.ext (by simp [hcol] <;> omega)))
  · obtain rfl : h = 2 := Fin.ext hk
    rw [dif_neg (by simp [hcol] <;> omega), dif_neg (by simp [hcol] <;> omega), dif_pos (by simp [hcol] <;> omega)]
    exact congrArg f2 (congrArg (ix2 r) (Fin.ext (by simp [hcol] <;> omega)))
  · obtain rfl : h = 3 := Fin.ext hk
    rw [dif_neg (by simp [hcol] <;> omega), dif_neg (by simp [hcol] <;> omega), dif_neg (by simp [hcol] <;> omega), dif_pos (by simp [hcol] <;> omega)]
    exact congrArg f3 (congrArg (ix2 r) (Fin.ext (by simp [hcol] <;> omega)))
  · obtain rfl : h = 4 := Fin.ext hk
    rw [dif_neg (by simp [hcol] <;> omega), dif_neg (by simp [hcol] <;> omega), dif_neg (by simp [hcol] <;> omega), dif_neg (by simp [hcol] <;> omega), dif_pos (by simp [hcol] <;> omega)]
    exact congrArg f4 (congrArg (ix2 r) (Fin.ext (by simp [hcol] <;> omega)))
  · obtain rfl : h = 5 := Fin.ext hk
    rw [dif_neg (by simp [hcol] <;> omega), dif_neg (by simp [hcol] <;> omega), dif_neg (by simp [hcol] <;> omega), dif_neg (by simp [hcol] <;> omega), dif_neg (by simp [hcol] <;> omega), dif_pos (by simp [hcol] <;> omega)]
    exact congrArg f5 (congrArg (ix2 r) (Fin.ext (by simp [hcol] <;> omega)))
  · obtain rfl : h = 6 := Fin.ext hk
    rw [dif_neg (by simp [hcol] <;> omega), dif_neg (by simp [hcol] <;> omega), dif_neg (by simp [hcol] <;> omega), dif_neg (by simp [hcol] <;> omega), dif_neg (by simp [hcol] <;> omega), dif_neg (by simp [hcol] <;> omega), dif_pos (by simp [hcol] <;> omega)]
    exact congrArg f6 (congrArg (ix2 r) (Fin.ext (by simp [hcol] <;> omega)))
  · obtain rfl : h = 7 := Fin.ext hk
    rw [dif_neg (by simp [hcol] <;> omega), dif_neg (by simp [hcol] <;> omega), dif_neg (by simp [hcol] <;> omega), dif_neg (by simp [hcol] <;> omega), dif_neg (by simp [hcol] <;> omega), dif_neg (by simp [hcol] <;> omega), dif_neg (by simp [hcol] <;> omega)]
    exact congrArg f7 (congrArg (ix2 r) (Fin.ext (by simp [hcol] <;> omega)))

/-- Eight pieces of 64 rows and 64 columns side by side, read at a column of head `h`. -/
theorem cat64_apply (f0 f1 f2 f3 f4 f5 f6 f7 : FVec Ideal S64x64 .bf16) (h : Fin 8) (r : Fin 64) (e : Fin 64) :
    concatenate S64x512 1 [⟨S64x64, f0⟩, ⟨S64x64, f1⟩, ⟨S64x64, f2⟩, ⟨S64x64, f3⟩, ⟨S64x64, f4⟩, ⟨S64x64, f5⟩, ⟨S64x64, f6⟩, ⟨S64x64, f7⟩] concatenates_S64x64_S64x64_S64x64_S64x64_S64x64_S64x64_S64x64_S64x64_S64x512_d1 (ix2 r (hcol h e))
      = (![f0, f1, f2, f3, f4, f5, f6, f7] : Fin 8 → FVec Ideal S64x64 .bf16) h (ix2 r e) := by
  pointwise []
  have he := e.isLt
  fin_vals h with hk
  · obtain rfl : h = 0 := Fin.ext hk
    rw [dif_pos (by simp [hcol] <;> omega)]
    exact congrArg f0 (congrArg (ix2 r) (Fin.ext (by simp [hcol] <;> omega)))
  · obtain rfl : h = 1 := Fin.ext hk
    rw [dif_neg (by simp [hcol] <;> omega), dif_pos (by simp [hcol] <;> omega)]
    exact congrArg f1 (congrArg (ix2 r) (Fin.ext (by simp [hcol] <;> omega)))
  · obtain rfl : h = 2 := Fin.ext hk
    rw [dif_neg (by simp [hcol] <;> omega), dif_neg (by simp [hcol] <;> omega), dif_pos (by simp [hcol] <;> omega)]
    exact congrArg f2 (congrArg (ix2 r) (Fin.ext (by simp [hcol] <;> omega)))
  · obtain rfl : h = 3 := Fin.ext hk
    rw [dif_neg (by simp [hcol] <;> omega), dif_neg (by simp [hcol] <;> omega), dif_neg (by simp [hcol] <;> omega), dif_pos (by simp [hcol] <;> omega)]
    exact congrArg f3 (congrArg (ix2 r) (Fin.ext (by simp [hcol] <;> omega)))
  · obtain rfl : h = 4 := Fin.ext hk
    rw [dif_neg (by simp [hcol] <;> omega), dif_neg (by simp [hcol] <;> omega), dif_neg (by simp [hcol] <;> omega), dif_neg (by simp [hcol] <;> omega), dif_pos (by simp [hcol] <;> omega)]
    exact congrArg f4 (congrArg (ix2 r) (Fin.ext (by simp [hcol] <;> omega)))
  · obtain rfl : h = 5 := Fin.ext hk
    rw [dif_neg (by simp [hcol] <;> omega), dif_neg (by simp [hcol] <;> omega), dif_neg (by simp [hcol] <;> omega), dif_neg (by simp [hcol] <;> omega), dif_neg (by simp [hcol] <;> omega), dif_pos (by simp [hcol] <;> omega)]
    exact congrArg f5 (congrArg (ix2 r) (Fin.ext (by simp [hcol] <;> omega)))
  · obtain rfl : h = 6 := Fin.ext hk
    rw [dif_neg (by simp [hcol] <;> omega), dif_neg (by simp [hcol] <;> omega), dif_neg (by simp [hcol] <;> omega), dif_neg (by simp [hcol] <;> omega), dif_neg (by simp [hcol] <;> omega), dif_neg (by simp [hcol] <;> omega), dif_pos (by simp [hcol] <;> omega)]
    exact congrArg f6 (congrArg (ix2 r) (Fin.ext (by simp [hcol] <;> omega)))
  · obtain rfl : h = 7 := Fin.ext hk
    rw [dif_neg (by simp [hcol] <;> omega), dif_neg (by simp [hcol] <;> omega), dif_neg (by simp [hcol] <;> omega), dif_neg (by simp [hcol] <;> omega), dif_neg (by simp [hcol] <;> omega), dif_neg (by simp [hcol] <;> omega), dif_neg (by simp [hcol] <;> omega)]
    exact congrArg f7 (congrArg (ix2 r) (Fin.ext (by simp [hcol] <;> omega)))

/-- The last three pieces of the outputs, as the payload that joins them computes them. -/
theorem num_apply' (r : Fin 256) (e : Fin 64) :
    matmul dot_S256x256_S256x64_S256x64_1_0_0_1_n_n none (k0_pay30 (qV I c) maskV (kbV I c)) (k0_pay31 (vbV I c)) zero64 (ix2 r e) = numV I c 5 r e
      ∧ matmul dot_S256x256_S256x64_S256x64_1_0_0_1_n_n none (truncf .bf16 (k0_pay32 (qV I c) maskV (kbV I c)) bitsLt_bf16_f32) (extractStridedSlice S256x64 ![0, 384] (vbV I c) slices_S256x512_o0_384_S256x64) (constant S256x64 .f32 0x00000000#32) (ix2 r e) = numV I c 6 r e
      ∧ matmul dot_S256x256_S256x64_S256x64_1_0_0_1_n_n none (truncf .bf16 (k0_pay33 (qV I c) maskV (kbV I c)) bitsLt_bf16_f32) (extractStridedSlice S256x64 ![0, 448] (vbV I c) slices_S256x512_o0_448_S256x64) (constant S256x64 .f32 0x00000000#32) (ix2 r e) = numV I c 7 r e := by
  refine ⟨?_, ?_, ?_⟩
  · pointwise [k0_pay30, k0_pay28, k0_pay31, zero64, kbV, vbV, k0_pay9, k0_pay10, numV, wgt, hcol]
  · pointwise [k0_pay32, kbV, vbV, k0_pay9, k0_pay10, numV, wgt, hcol]
  · pointwise [k0_pay33, kbV, vbV, k0_pay9, k0_pay10, numV, wgt, hcol]

/-- The unnormalised outputs: the values of the device, weighted. -/
theorem locA_apply (h : Fin 8) (r : Fin 256) (e : Fin 64) : locA I c (ix2 r (hcol h e)) = numV I c h r e := by
  obtain ⟨h0, h1, h2, h3, h4⟩ := num_apply I c r e
  obtain ⟨h5, h6, h7⟩ := num_apply' I c r e
  unfold locA k0_pay34
  have hc : ∀ (t : FVec Ideal S256x512 .bf16) (j : S256x512.Idx), shapeCast S256x512 t shapeCasts_S256x512_S256x512 j = t j := by
    intro t j; pointwise []
  rw [hc, cat256_apply]
  fin_vals h with hk
  · obtain rfl : h = 0 := Fin.ext hk
    exact h0
  · obtain rfl : h = 1 := Fin.ext hk
    exact h1
  · obtain rfl : h = 2 := Fin.ext hk
    exact h2
  · obtain rfl : h = 3 := Fin.ext hk
    exact h3
  · obtain rfl : h = 4 := Fin.ext hk
    exact h4
  · obtain rfl : h = 5 := Fin.ext hk
    exact h5
  · obtain rfl : h = 6 := Fin.ext hk
    exact h6
  · obtain rfl : h = 7 := Fin.ext hk
    exact h7

end Cert.KernelIdeal.Attn
end
-- ==== Proof.Val2.lean ====
/-
  The four partial results added up, normalised and multiplied by the output weights, read index by index over the extended
  reals.
-/
module

public import proofs.«01_k».proof.Proof.Val1

@[expose] public section

set_option maxRecDepth 16384

noncomputable section

namespace Cert.KernelIdeal.Attn

open Idealize.ShloMosaic
open Idealize.ShloMosaic.TcCoe
open Cert.KernelIdeal Cert.KernelIdeal.Gen Cert.Alg

variable (I : Ins Ideal) (c : Dev nD)

/-- A sum over the devices, started at any of them. -/
theorem sum_rot (f : Dev nD → EReal) : f c + f (rot c 1) + f (rot c 2) + f (rot c 3) = ∑ d : Dev nD, f d := by
  have e : ∑ d : Dev nD, f d = f 0 + f 1 + f 2 + f 3 := Fin.sum_univ_four f
  rw [e]
  have hc : c = 0 ∨ c = 1 ∨ c = 2 ∨ c = 3 := by revert c; decide
  rcases hc with rfl | rfl | rfl | rfl
  · rfl
  · change f 1 + f 2 + f 3 + f 0 = _
    ac_rfl
  · change f 2 + f 3 + f 0 + f 1 = _
    ac_rfl
  · change f 3 + f 0 + f 1 + f 2 = _
    ac_rfl

/-- The four partial results of the own quarter, added up. -/
abbrev totV : FVec Ideal S64x640 .f32 := k0_pay36 (ownRows I c) (pslot I c 1) (pslot I c 2) (pslot I c 3)

theorem totV_apply (a : Fin 64) (t : Fin 640) : totV I c (ix2 a t) = ∑ d : Dev nD, locV I d (ix2 (qrow c a) t) := by
  rw [← sum_rot c]
  pointwise [totV, k0_pay36]
  rfl

/-- The outputs of head `h`, before they are normalised. -/
theorem totV_num (a : Fin 64) (h : Fin 8) (e : Fin 64) :
    totV I c (ix2 a ⟨64 * h.val + e.val, by omega⟩) = ∑ d : Dev nD, numV I d h (qrow c a) e := by
  rw [totV_apply]
  refine Finset.sum_congr rfl fun d _ => ?_
  rw [← locA_apply]
  exact dif_pos (show 64 * h.val + e.val < 512 by omega)

/-- The denominator of head `h`. -/
theorem totV_den (a : Fin 64) (h : Fin 8) :
    totV I c (ix2 a ⟨512 + h.val, by omega⟩) = ∑ d : Dev nD, ∑ s : Fin 256, wgt I d h (qrow c a) s := by
  rw [totV_apply]
  refine Finset.sum_congr rfl fun d _ => ?_
  rw [← locB_apply]
  refine (dif_neg (show ¬ 512 + h.val < 512 by omega)).trans ((dif_pos (show 512 + h.val < 520 by omega)).trans ?_)
  exact congrArg (locB I d) (congrArg (ix2 (qrow c a)) (Fin.ext (Nat.add_sub_cancel_left 512 h.val)))

/-- The attention of the own quarter: outputs times the inverse of the denominator. -/
def attV (a : Fin 64) (h : Fin 8) (e : Fin 64) : EReal :=
  (∑ d : Dev nD, numV I d h (qrow c a) e) * Ideal.div 1 (∑ d : Dev nD, ∑ s : Fin 256, wgt I d h (qrow c a) s)

/-- The inverse denominators. -/
theorem inv_apply (a : Fin 64) (h : Fin 8) :
    k0_pay37 (ownRows I c) (pslot I c 1) (pslot I c 2) (pslot I c 3) (ix2 a h)
      = Ideal.div 1 (∑ d : Dev nD, ∑ s : Fin 256, wgt I d h (qrow c a) s) := by
  rw [← totV_den]
  pointwise [k0_pay37]

/-- The normalised outputs of head 0. -/
def attP0 : FVec Ideal S64x64 .bf16 := k0_pay38 (ownRows I c) (pslot I c 1) (pslot I c 2) (pslot I c 3)
/-- The normalised outputs of head 1. -/
def attP1 : FVec Ideal S64x64 .bf16 := k0_pay39 (ownRows I c) (pslot I c 1) (pslot I c 2) (pslot I c 3)
/-- The normalised outputs of head 2. -/
def attP2 : FVec Ideal S64x64 .bf16 := k0_pay40 (ownRows I c) (pslot I c 1) (pslot I c 2) (pslot I c 3)
/-- The normalised outputs of head 3. -/
def attP3 : FVec Ideal S64x64 .bf16 := truncf .bf16 (k0_pay41 (ownRows I c) (pslot I c 1) (pslot I c 2) (pslot I c 3)) bitsLt_bf16_f32
/-- The normalised outputs of head 4. -/
def attP4 : FVec Ideal S64x64 .bf16 := truncf .bf16 (mulf (extractStridedSlice S64x64 ![0, 256] (k0_pay36 (ownRows I c) (pslot I c 1) (pslot I c 2) (pslot I c 3)) slices_S64x640_o0_256_S64x64) (broadcastTo S64x64 (extractStridedSlice S64x1 ![0, 4] (k0_pay37 (ownRows I c) (pslot I c 1) (pslot I c 2) (pslot I c 3)) slices_S64x8_o0_4_S64x1) broadcasts_S64x1_S64x64)) bitsLt_bf16_f32
/-- The normalised outputs of head 5. -/
def attP5 : FVec Ideal S64x64 .bf16 := truncf .bf16 (mulf (extractStridedSlice S64x64 ![0, 320] (k0_pay36 (ownRows I c) (pslot I c 1) (pslot I c 2) (pslot I c 3)) slices_S64x640_o0_320_S64x64) (broadcastTo S64x64 (extractStridedSlice S64x1 ![0, 5] (k0_pay37 (ownRows I c) (pslot I c 1) (pslot I c 2) (pslot I c 3)) slices_S64x8_o0_5_S64x1) broadcasts_S64x1_S64x64)) bitsLt_bf16_f32
/-- The normalised outputs of head 6. -/
def attP6 : FVec Ideal S64x64 .bf16 := truncf .bf16 (mulf (extractStridedSlice S64x64 ![0, 384] (k0_pay36 (ownRows I c) (pslot I c 1) (pslot I c 2) (pslot I c 3)) slices_S64x640_o0_384_S64x64) (broadcastTo S64x64 (extractStridedSlice S64x1 ![0, 6] (k0_pay37 (ownRows I c) (pslot I c 1) (pslot I c 2) (pslot I c 3)) slices_S64x8_o0_6_S64x1) broadcasts_S64x1_S64x64)) bitsLt_bf16_f32
/-- The normalised outputs of head 7. -/
def attP7 : FVec Ideal S64x64 .bf16 := truncf .bf16 (mulf (extractStridedSlice S64x64 ![0, 448] (k0_pay36 (ownRows I c) (pslot I c 1) (pslot I c 2) (pslot I c 3)) slices_S64x640_o0_448_S64x64) (broadcastTo S64x64 (extractStridedSlice S64x1 ![0, 7] (k0_pay37 (ownRows I c) (pslot I c 1) (pslot I c 2) (pslot I c 3)) slices_S64x8_o0_7_S64x1) broadcasts_S64x1_S64x64)) bitsLt_bf16_f32
theorem attP0_apply (a e : Fin 64) : attP0 I c (ix2 a e) = attV I c a 0 e := by
  rw [attV, ← totV_num, ← inv_apply]
  pointwise [attP0, k0_pay38]
theorem attP1_apply (a e : Fin 64) : attP1 I c (ix2 a e) = attV I c a 1 e := by
  rw [attV, ← totV_num, ← inv_apply]
  pointwise [attP1, k0_pay39]
theorem attP2_apply (a e : Fin 64) : attP2 I c (ix2 a e) = attV I c a 2 e := by
  rw [attV, ← totV_num, ← inv_apply]
  pointwise [attP2, k0_pay40]
theorem attP3_apply (a e : Fin 64) : attP3 I c (ix2 a e) = attV I c a 3 e := by
  rw [attV, ← totV_num, ← inv_apply]
  pointwise [attP3, k0_pay41]
theorem attP4_apply (a e : Fin 64) : attP4 I c (ix2 a e) = attV I c a 4 e := by
  rw [attV, ← totV_num, ← inv_apply]
  pointwise [attP4]
theorem attP5_apply (a e : Fin 64) : attP5 I c (ix2 a e) = attV I c a 5 e := by
  rw [attV, ← totV_num, ← inv_apply]
  pointwise [attP5]
theorem attP6_apply (a e : Fin 64) : attP6 I c (ix2 a e) = attV I c a 6 e := by
  rw [attV, ← totV_num, ← inv_apply]
  pointwise [attP6]
theorem attP7_apply (a e : Fin 64) : attP7 I c (ix2 a e) = attV I c a 7 e := by
  rw [attV, ← totV_num, ← inv_apply]
  pointwise [attP7]

/-- The attention of the own quarter, the heads side by side. -/
def attM : FVec Ideal S64x512 .bf16 :=
  concatenate S64x512 1 [⟨S64x64, attP0 I c⟩, ⟨S64x64, attP1 I c⟩, ⟨S64x64, attP2 I c⟩, ⟨S64x64, attP3 I c⟩, ⟨S64x64, attP4 I c⟩, ⟨S64x64, attP5 I c⟩, ⟨S64x64, attP6 I c⟩, ⟨S64x64, attP7 I c⟩] concatenates_S64x64_S64x64_S64x64_S64x64_S64x64_S64x64_S64x64_S64x64_S64x512_d1

theorem attM_apply (a : Fin 64) (h : Fin 8) (e : Fin 64) : attM I c (ix2 a (hcol h e)) = attV I c a h e := by
  unfold attM
  rw [cat64_apply]
  fin_vals h with hk
  · obtain rfl : h = 0 := Fin.ext hk
    exact attP0_apply I c a e
  · obtain rfl : h = 1 := Fin.ext hk
    exact attP1_apply I c a e
  · obtain rfl : h = 2 := Fin.ext hk
    exact attP2_apply I c a e
  · obtain rfl : h = 3 := Fin.ext hk
    exact attP3_apply I c a e
  · obtain rfl : h = 4 := Fin.ext hk
    exact attP4_apply I c a e
  · obtain rfl : h = 5 := Fin.ext hk
    exact attP5_apply I c a e
  · obtain rfl : h = 6 := Fin.ext hk
    exact attP6_apply I c a e
  · obtain rfl : h = 7 := Fin.ext hk
    exact attP7_apply I c a e

/-- The own quarter of the result. -/
theorem outOwn_apply (a : Fin 64) (n : Fin 512) :
    outOwn I c (ix2 a n) = ∑ h : Fin 8, ∑ e : Fin 64, attV I c a h e * I.wo c (ix2 (hcol h e) n) := by
  have key : outOwn I c (ix2 a n) = ∑ t : Fin 512, attM I c (ix2 a t) * I.wo c (ix2 t n) := by
    change matmul dot_S64x512_S512x512_S64x512_1_0_0_1_n_n none (attM I c) (truncf .bf16 (I.wo c) bitsLt_bf16_f32) (constant S64x512 .f32 0x00000000#32) (ix2 a n) = _
    pointwise []
  rw [key, sum_hcol]
  exact Finset.sum_congr rfl fun h _ => Finset.sum_congr rfl fun e _ => by rw [attM_apply]

/-- What is sent to the peers is the same over the extended reals. -/
theorem osendV_apply (a : Fin 64) (n : Fin 512) : osendV I c (ix2 a n) = outOwn I c (ix2 a n) := by
  unfold osendV outOwn
  pointwise [k0_pay43]

/-- The result, row `64 q + a`: the own quarter of device `q`, on every device. -/
theorem outV_apply (q : Dev nD) (a : Fin 64) (n : Fin 512) : outV I c (ix2 (qrow q a) n) = outOwn I q (ix2 a n) := by
  have hq : q.val < 4 := q.isLt
  have h1 : (64 * q.val + a.val) / 64 = q.val := by omega
  have h2 : (64 * q.val + a.val) % 64 = a.val := by omega
  have hr : (⟨(64 * q.val + a.val) % 64, Nat.mod_lt _ (by decide)⟩ : Fin 64) = a := Fin.ext h2
  by_cases h : q = c
  · subst h
    refine (if_pos h1).trans ?_
    exact congrArg (outOwn I q) (congrArg (fun b => ix2 b n) hr)
  · refine (if_neg (fun e => h (Fin.ext (h1.symm.trans e)))).trans ?_
    have hd : (⟨(64 * q.val + a.val) / 64, by omega⟩ : Fin 4) = q := Fin.ext h1
    change k0_pay1 (oslot I c (dist c ⟨(64 * q.val + a.val) / 64, by omega⟩)) (ix2 ⟨(64 * q.val + a.val) % 64, Nat.mod_lt _ (by decide)⟩ n) = _
    rw [hr, hd, ← osendV_apply]
    pointwise [k0_pay1, oslot, obufV]
    change osendV I (rot c (dist c q)) (ix2 a n) = _
    rw [rot_dist]

end Cert.KernelIdeal.Attn
end
-- ==== Proof.Val3.lean ====
/-
  The kernel's result on real queries and keys: the mask leaves the keys of the query's own batch entry, and the four
  devices' keys are all the keys.
-/
module

public import proofs.«01_k».proof.Proof.Val2

@[expose] public section

noncomputable section

namespace Cert.KernelIdeal.Attn

open Idealize.ShloMosaic
open Idealize.ShloMosaic.TcCoe
open Cert.KernelIdeal Cert.KernelIdeal.Gen Cert.Alg

/-- Row `128 b + i`: query or key `i` of batch entry `b`. -/
def brow (b : Fin 2) (i : Fin 128) : Fin 256 := ⟨128 * b.val + i.val, by omega⟩
/-- Key `j` of device `d` among all the keys. -/
def gkey (d : Dev nD) (j : Fin 128) : Fin 512 := ⟨128 * d.val + j.val, by have : d.val < 4 := d.isLt; omega⟩

/-- A sum over the rows is a sum over the batch entries and their rows. -/
theorem sum_brow (f : Fin 256 → EReal) : ∑ s : Fin 256, f s = ∑ b : Fin 2, ∑ j : Fin 128, f (brow b j) := by
  rw [← Fintype.sum_prod_type']
  refine (Equiv.sum_comp (finProdFinEquiv : Fin 2 × Fin 128 ≃ Fin (2 * 128)) f).symm.trans (Finset.sum_congr rfl fun p _ => ?_)
  exact congrArg f (Fin.ext (Nat.add_comm _ _))
/-- A sum over all the keys is a sum over the devices and their keys. -/
theorem sum_gkey (f : Fin 512 → EReal) : ∑ j : Fin 512, f j = ∑ d : Dev nD, ∑ j : Fin 128, f (gkey d j) := by
  refine Eq.trans ?_ (Fintype.sum_prod_type' (fun (d : Dev nD) (j : Fin 128) => f (gkey d j)))
  refine (Equiv.sum_comp (finProdFinEquiv : Fin 4 × Fin 128 ≃ Fin (4 * 128)) f).symm.trans (Finset.sum_congr rfl fun p _ => ?_)
  exact congrArg f (Fin.ext (Nat.add_comm _ _))

variable (I : Ins Ideal) (xr : Fin 2 → Fin 128 → Fin 512 → ℝ) (wr : Fin 512 → Fin 512 → ℝ)
  (kr : Fin 2 → Fin 512 → Fin 8 → Fin 64 → ℝ) (vv : Fin 2 → Fin 512 → Fin 8 → Fin 64 → EReal)

/-- The score of a query and a key. -/
def scK (b : Fin 2) (i : Fin 128) (h : Fin 8) (j : Fin 512) : ℝ :=
  (∑ e : Fin 64, (∑ t : Fin 512, xr b i t * wr t (hcol h e)) * kr b j h e) * (1 / 8)

variable {I xr wr kr vv}
  (hx : ∀ c b i t, I.x c (ix2 (brow b i) t) = (xr b i t : EReal)) (hw : ∀ c t n, I.wq c (ix2 t n) = (wr t n : EReal))
  (hk : ∀ c b j h e, I.k c (ix2 (brow b j) (hcol h e)) = (kr b (gkey c j) h e : EReal))
  (hv : ∀ c b j h e, I.v c (ix2 (brow b j) (hcol h e)) = vv b (gkey c j) h e)

include hx hw hk in
/-- The weight of a key of the query's batch entry. -/
theorem wgt_same (c : Dev nD) (b : Fin 2) (i j : Fin 128) (h : Fin 8) :
    wgt I c h (brow b i) (brow b j) = Ideal.exp (scK xr wr kr b i h (gkey c j) : EReal) := by
  have hm : (brow b i).val / 128 = (brow b j).val / 128 := by
    simp only [brow]
    omega
  unfold wgt
  rw [maskV_apply, if_pos hm, mul_one]
  refine congrArg Ideal.exp ?_
  have hq : ∀ e : Fin 64, qV I c (ix2 (brow b i) (hcol h e)) = ((∑ t : Fin 512, xr b i t * wr t (hcol h e) : ℝ) : EReal) * ((1 / 8 : ℝ) : EReal) := fun e => by
    rw [qV_apply, scale_eq, ← dot_real]
    simp only [hx, hw]
  simp only [hq, hk]
  exact (score_scale _ _ _).1.trans (score_scale _ _ _).2

/-- The weight of a key of the other batch entry is zero. -/
theorem wgt_other (c : Dev nD) (b b' : Fin 2) (hb : b' ≠ b) (i j : Fin 128) (h : Fin 8) : wgt I c h (brow b i) (brow b' j) = 0 := by
  have hm : ¬ (brow b i).val / 128 = (brow b' j).val / 128 := fun e => hb (Fin.ext (by
    simp only [brow] at e
    omega))
  unfold wgt
  rw [maskV_apply, if_neg hm, mul_zero]

include hx hw hk in
/-- A device's denominator. -/
theorem den_eq (c : Dev nD) (b : Fin 2) (i : Fin 128) (h : Fin 8) :
    ∑ s : Fin 256, wgt I c h (brow b i) s = ∑ j : Fin 128, Ideal.exp (scK xr wr kr b i h (gkey c j) : EReal) := by
  rw [sum_brow, Finset.sum_eq_single b (fun b' _ hb => Finset.sum_eq_zero fun j _ => wgt_other c b b' hb i j h)
    (fun hn => absurd (Finset.mem_univ b) hn)]
  exact Finset.sum_congr rfl fun j _ => wgt_same hx hw hk c b i j h

include hx hw hk hv in
/-- A device's outputs. -/
theorem num_eq (c : Dev nD) (b : Fin 2) (i : Fin 128) (h : Fin 8) (e : Fin 64) :
    numV I c h (brow b i) e = ∑ j : Fin 128, Ideal.exp (scK xr wr kr b i h (gkey c j) : EReal) * vv b (gkey c j) h e := by
  unfold numV
  rw [sum_brow, Finset.sum_eq_single b
    (fun b' _ hb => Finset.sum_eq_zero fun j _ => by rw [wgt_other c b b' hb i j h, zero_mul])
    (fun hn => absurd (Finset.mem_univ b) hn)]
  exact Finset.sum_congr rfl fun j _ => by rw [wgt_same hx hw hk c b i j h, hv]

include hx hw hk hv in
/-- The result on real queries and keys, on every device. -/
theorem outV_eq (c : Dev nD) (b : Fin 2) (i : Fin 128) (n : Fin 512) (wo : Fin 512 → EReal)
    (ho : ∀ (d : Dev nD) (t : Fin 512), I.wo d (ix2 t n) = wo t) :
    outV I c (ix2 (brow b i) n)
      = ∑ h : Fin 8, ∑ e : Fin 64, ((∑ j : Fin 512, Ideal.exp (scK xr wr kr b i h j : EReal) * vv b j h e)
          * Ideal.div 1 (∑ j : Fin 512, Ideal.exp (scK xr wr kr b i h j : EReal))) * wo (hcol h e) := by
  have hr : brow b i = qrow ⟨(128 * b.val + i.val) / 64, by change _ < 4; omega⟩ ⟨(128 * b.val + i.val) % 64, Nat.mod_lt _ (by decide)⟩ :=
    Fin.ext (by simp only [brow, qrow]; omega)
  rw [hr, outV_apply, outOwn_apply]
  refine Finset.sum_congr rfl fun h _ => Finset.sum_congr rfl fun e _ => ?_
  unfold attV
  rw [← hr, ho, sum_gkey, sum_gkey]
  simp only [den_eq hx hw hk, num_eq hx hw hk hv]

end Cert.KernelIdeal.Attn
end
-- ==== Proof.Ref1.lean ====
/-
  The reference's result, read index by index over the extended reals.
-/
module

public import proofs.«01_k».proof.Proof.Gen.ReferenceIdeal.Run
public import proofs.«01_k».proof.Proof.Alg

@[expose] public section

set_option maxRecDepth 16384

noncomputable section

namespace Cert.ReferenceIdeal.Attn

open Idealize.ShloMosaic
open Idealize.ShloMosaic.TcCoe
open Cert.ReferenceIdeal Cert.ReferenceIdeal.Gen Cert.Alg

variable (x : FVec Ideal S2x128x512 .f32) (wq wo : FVec Ideal S512x512 .f32) (k v : FVec Ideal S2x512x8x64 .f32)

/-- The scaled scores. -/
def sc : FVec Ideal S2x8x128x512 .f32 :=
  mulf (Host.dotGeneral dot_S2x128x8x64_S2x512x8x64_S2x8x128x512_3_3_1_1_02_02 none (shapeCast S2x128x8x64 (Host.dotGeneral dot_S2x128x512_S512x512_S2x128x512_2_0_01_1_n_n none x wq) shapeCasts_S2x128x512_S2x128x8x64) k) (broadcastInDim S2x8x128x512 ![] bcast_S_S2x8x128x512 (constant S_ .f32 0x3E000000#32))
/-- The largest score of a query, over every key. -/
def mx : FVec Ideal S2x8x128x1 .f32 :=
  maximumf (broadcastInDim S2x8x128x1 ![] bcast_S_S2x8x128x1 (constant S_ .f32 0xFF800000#32)) (broadcastInDim S2x8x128x1 ![0, 1, 2] bcast_S2x8x128_S2x8x128x1_0_1_2 (Host.reduce FloatOps.maximumf (sc x wq k) (constant S_ .f32 0xFF800000#32) reducesTo_S2x8x128x512_S2x8x128_d3 h_S_))
/-- The weights. -/
def ex : FVec Ideal S2x8x128x512 .f32 :=
  Host.exp (subf (sc x wq k) (broadcastInDim S2x8x128x512 ![0, 1, 2, 3] bcast_S2x8x128x1_S2x8x128x512_0_1_2_3 (mx x wq k)))
/-- The factor that rescales what was summed before the only block. -/
def al : FVec Ideal S2x8x128x1 .f32 :=
  Host.exp (subf (broadcastInDim S2x8x128x1 ![] bcast_S_S2x8x128x1 (constant S_ .f32 0xFF800000#32)) (mx x wq k))
/-- The denominators. -/
def dn : FVec Ideal S2x8x128x1 .f32 :=
  addf (mulf (broadcastInDim S2x8x128x1 ![] bcast_S_S2x8x128x1 (constant S_ .f32 0x00000000#32)) (al x wq k)) (broadcastInDim S2x8x128x1 ![0, 1, 2] bcast_S2x8x128_S2x8x128x1_0_1_2 (Host.reduceAdd (ex x wq k) (constant S_ .f32 0x00000000#32) reducesTo_S2x8x128x512_S2x8x128_d3 h_S_))
/-- The outputs before they are normalised. -/
def nm : FVec Ideal S2x128x8x64 .f32 :=
  addf (mulf (broadcastInDim S2x128x8x64 ![] bcast_S_S2x128x8x64 (constant S_ .f32 0x00000000#32)) (broadcastInDim S2x128x8x64 ![0, 1, 2, 3] bcast_S2x128x8x1_S2x128x8x64_0_1_2_3 (transpose S2x128x8x1 [0, 2, 1, 3] (al x wq k) transposes_S2x8x128x1_S2x128x8x1_0_2_1_3))) (transpose S2x128x8x64 [0, 3, 1, 2] (Host.dotGeneral dot_S2x512x8x64_S2x8x128x512_S2x8x64x128_1_3_3_2_02_01 none v (ex x wq k)) transposes_S2x8x64x128_S2x128x8x64_0_3_1_2)
/-- The attention. -/
def at' : FVec Ideal S2x128x8x64 .f32 :=
  Host.divf (nm x wq k v) (broadcastInDim S2x128x8x64 ![0, 1, 2, 3] bcast_S2x128x8x1_S2x128x8x64_0_1_2_3 (transpose S2x128x8x1 [0, 2, 1, 3] (dn x wq k) transposes_S2x8x128x1_S2x128x8x1_0_2_1_3))
/-- The result. -/
def refOut : FVec Ideal S2x128x512 .f32 :=
  Host.dotGeneral dot_S2x128x512_S512x512_S2x128x512_2_0_01_1_n_n none (shapeCast S2x128x512 (at' x wq k v) shapeCasts_S2x128x8x64_S2x128x512) wo

/-- The program's result is this function of its arguments. -/
theorem res_eq (m : (ℓ : Loc nD τ sig) → Buf (Elt Ideal) ℓ) (c : Dev nD) :
    Value.res_main_v30 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

variable (b : Fin 2) (i : Fin 128) (h : Fin 8)

/-- A real argument's scores. -/
def scR (xr : S2x128x512.Idx → ℝ) (wr : S512x512.Idx → ℝ) (kr : S2x512x8x64.Idx → ℝ) (b : Fin 2) (i : Fin 128) (h : Fin 8) (j : Fin 512) : ℝ :=
  (∑ e : Fin 64, (∑ t : Fin 512, xr (ix3 b i t) * wr (ix2 t (hcol h e))) * kr (ix4 b j h e)) * (1 / 8)

variable {x wq k} {xr : S2x128x512.Idx → ℝ} {wr : S512x512.Idx → ℝ} {kr : S2x512x8x64.Idx → ℝ}
  (hx : ∀ p, x p = (xr p : EReal)) (hw : ∀ p, wq p = (wr p : EReal)) (hk : ∀ p, k p = (kr p : EReal))
include hx hw hk

/-- The scores of real arguments are real. -/
theorem sc_apply (j : Fin 512) : sc x wq k (ix4 b h i j) = (scR xr wr kr b i h j : EReal) := by
  have e1 : sc x wq k (ix4 b h i j)
      = (∑ e : Fin 64, (∑ t : Fin 512, x (ix3 b i t) * wq (ix2 t (hcol h e))) * k (ix4 b j h e)) * Ideal.ofBits .f32 0x3E000000#32 := by
    pointwise [sc]
    refine congrArg (· * _) (Finset.sum_congr rfl fun e _ => congrArg (· * _) (Finset.sum_congr rfl fun t _ => ?_))
    exact congrArg (fun y => x (ix3 b i t) * wq (ix2 t y)) (Fin.ext (by simp only [hcol]; omega))
  rw [e1, scale_eq]
  simp only [hx, hw, hk, dot_real]
  rw [← EReal.coe_mul]
  rfl

/-- The largest score of real arguments is real. -/
theorem mx_real : ∃ μ : ℝ, mx x wq k (ix4 b h i 0) = (μ : EReal) := by
  obtain ⟨μ, hμ⟩ := max_real (by decide : 0 < 512) (fun j => scR xr wr kr b i h j)
  refine ⟨μ, hμ ▸ ?_⟩
  pointwise [mx]
  rw [low_eq]
  exact congrArg (fun f => max ⊥ (Finset.fold max ⊥ f Finset.univ)) (funext fun j => sc_apply b i h hx hw hk j)

/-- The attention of real queries and keys. -/
theorem at_apply (e : Fin 64) :
    at' x wq k v (ix4 b i h e)
      = (∑ j : Fin 512, Ideal.exp (scR xr wr kr b i h j : EReal) * v (ix4 b j h e)) * Ideal.div 1 (∑ j : Fin 512, Ideal.exp (scR xr wr kr b i h j : EReal)) := by
  obtain ⟨μ, hμ⟩ := mx_real b i h hx hw hk
  rw [← softmax_shift (by decide : 0 < 512) (fun j => scR xr wr kr b i h j) (fun j => v (ix4 b j h e)) μ]
  have he : ∀ j : Fin 512, ex x wq k (ix4 b h i j) = Ideal.exp ((scR xr wr kr b i h j : EReal) - (μ : EReal)) := fun j => by
    rw [← hμ, ← sc_apply b i h hx hw hk j]
    pointwise [ex]
  simp only [← he]
  pointwise [at', nm, dn]
  simp only [zero_mul, zero_add]

/-- The result of real queries and keys. -/
theorem refOut_apply (n : Fin 512) :
    refOut x wq wo k v (ix3 b i n)
      = ∑ h : Fin 8, ∑ e : Fin 64, ((∑ j : Fin 512, Ideal.exp (scR xr wr kr b i h j : EReal) * v (ix4 b j h e))
          * Ideal.div 1 (∑ j : Fin 512, Ideal.exp (scR xr wr kr b i h j : EReal))) * wo (ix2 (hcol h e) n) := by
  have e1 : refOut x wq wo k v (ix3 b i n)
      = ∑ t : Fin 512, at' x wq k v (ix4 b i ⟨t.val / 64, by omega⟩ ⟨t.val % 64, by omega⟩) * wo (ix2 t n) := by
    pointwise [refOut]
  rw [e1, sum_hcol]
  refine Finset.sum_congr rfl fun h _ => Finset.sum_congr rfl fun e _ => ?_
  rw [← at_apply v b i h hx hw hk e]
  have a1 : (⟨(hcol h e).val / 64, by omega⟩ : Fin 8) = h := Fin.ext (by simp only [hcol]; omega)
  have a2 : (⟨(hcol h e).val % 64, by omega⟩ : Fin 64) = e := Fin.ext (by simp only [hcol]; omega)
  rw [a1, a2]

end Cert.ReferenceIdeal.Attn
end
-- ==== Proof.Value.lean ====
/-
  The kernel's result is the reference's, over the extended reals, on every device.
-/
module

public import proofs.«01_k».proof.Defs
public import proofs.«01_k».proof.Proof.Main
public import proofs.«01_k».proof.Proof.Val3
public import proofs.«01_k».proof.Proof.Ref1
public import proofs.«01_k».proof.Proof.Pre1

@[expose] public section

set_option maxRecDepth 16384

noncomputable section

namespace Cert.KernelIdeal.Attn

open Idealize.ShloMosaic
open Idealize.ShloMosaic.TcCoe
open Cert.KernelIdeal Cert.KernelIdeal.Gen Cert.Alg

variable (m : (ℓ : Loc nD τ sig) → Buf (Elt Ideal) ℓ) (c : Dev nD)

/-- The reshapes before the kernel, on `x`: -/
theorem V₁_v1 : V₁ m c (Proc.devRef .tc main_v1) = fun p => shapeCast S256x512 (m ((c : Thread nD τ).loc main_arg0) : FVec Ideal S2x128x512 .f32) shapeCasts_S2x128x512_S256x512 p := by
  unfold V₁ hostOps0
  rw [StableHlo.after_cons, StableHlo.after_cons, StableHlo.after_cons, StableHlo.after_nil,
    StableHlo.reshape_result_ne _ _ _ _ _ _ _ (by decide), StableHlo.reshape_result_ne _ _ _ _ _ _ _ (by decide), StableHlo.reshape_result']
  rfl
/-- on the keys, -/
theorem V₁_v2 : V₁ m c (Proc.devRef .tc main_v2) = fun p => shapeCast S256x512 (m ((c : Thread nD τ).loc main_arg3) : FVec Ideal S2x128x8x64 .f32) shapeCasts_S2x128x8x64_S256x512 p := by
  unfold V₁ hostOps0
  rw [StableHlo.after_cons, StableHlo.after_cons, StableHlo.after_cons, StableHlo.after_nil,
    StableHlo.reshape_result_ne _ _ _ _ _ _ _ (by decide), StableHlo.reshape_result', StableHlo.reshape_result_ne _ _ _ _ _ _ _ (by decide)]
  rfl
/-- on the values. -/
theorem V₁_v3 : V₁ m c (Proc.devRef .tc main_v3) = fun p => shapeCast S256x512 (m ((c : Thread nD τ).loc main_arg4) : FVec Ideal S2x128x8x64 .f32) shapeCasts_S2x128x8x64_S256x512 p := by
  unfold V₁ hostOps0
  rw [StableHlo.after_cons, StableHlo.after_cons, StableHlo.after_cons, StableHlo.after_nil,
    StableHlo.reshape_result', StableHlo.reshape_result_ne _ _ _ _ _ _ _ (by decide), StableHlo.reshape_result_ne _ _ _ _ _ _ _ (by decide)]
  rfl

/-- The batch entries stacked, at a row. -/
theorem stack_x (x : FVec Ideal S2x128x512 .f32) (b : Fin 2) (i : Fin 128) (t : Fin 512) :
    shapeCast S256x512 x shapeCasts_S2x128x512_S256x512 (ix2 (brow b i) t) = x (ix3 b i t) := by
  pointwise []
  refine congrArg x ?_
  have h1 : (brow b i).val / 128 = b.val := by simp only [brow]; omega
  have h2 : (brow b i).val % 128 = i.val := by simp only [brow]; omega
  rw [show (⟨(brow b i).val / 128, by omega⟩ : Fin 2) = b from Fin.ext h1, show (⟨(brow b i).val % 128, by omega⟩ : Fin 128) = i from Fin.ext h2]
/-- The batch entries stacked and the heads side by side, at a row and a head's column. -/
theorem stack_k (x : FVec Ideal S2x128x8x64 .f32) (b : Fin 2) (i : Fin 128) (h : Fin 8) (e : Fin 64) :
    shapeCast S256x512 x shapeCasts_S2x128x8x64_S256x512 (ix2 (brow b i) (hcol h e)) = x (ix4 b i h e) := by
  pointwise []
  refine congrArg x ?_
  have h1 : (brow b i).val / 128 = b.val := by simp only [brow]; omega
  have h2 : (brow b i).val % 128 = i.val := by simp only [brow]; omega
  have h3 : (hcol h e).val / 64 = h.val := by simp only [hcol]; omega
  have h4 : (hcol h e).val % 64 = e.val := by simp only [hcol]; omega
  rw [show (⟨(brow b i).val / 128, by omega⟩ : Fin 2) = b from Fin.ext h1, show (⟨(brow b i).val % 128, by omega⟩ : Fin 128) = i from Fin.ext h2,
    show (⟨(hcol h e).val / 64, by omega⟩ : Fin 8) = h from Fin.ext h3, show (⟨(hcol h e).val % 64, by omega⟩ : Fin 64) = e from Fin.ext h4]
/-- The result unstacked. -/
theorem unstack (y : FVec Ideal S256x512 .f32) (b : Fin 2) (i : Fin 128) (n : Fin 512) :
    shapeCast S2x128x512 y shapeCasts_S256x512_S2x128x512 (ix3 b i n) = y (ix2 (brow b i) n) := by
  pointwise []
  exact congrArg (fun r => y (ix2 r n)) (Fin.ext (by simp only [brow]; omega))

/-- A device's block of the keys or of the values, read at an index. -/
theorem block_key (v : (⟨4, ![2, 512, 8, 64]⟩ : Shape).Idx → EReal) (d : Dev nD) (b : Fin 2) (j : Fin 128) (h : Fin 8) (e : Fin 64) :
    Layout.block ⟨4, ![2, 128, 8, 64]⟩ ⟨4, ![2, 512, 8, 64]⟩ 1 4 d v (by decide) (ix4 b j h e) = v (ix4 b (gkey d j) h e) := by
  refine congrArg v (funext fun a => Fin.ext ?_)
  match a with
  | ⟨0, _⟩ => rfl
  | ⟨1, _⟩ =>
    show d.val * 128 + j.val = 128 * d.val + j.val
    omega
  | ⟨2, _⟩ => rfl
  | ⟨3, _⟩ => rfl

end Cert.KernelIdeal.Attn

namespace Cert.Proof

open Idealize.ShloMosaic
open Idealize.ShloMosaic.TcCoe
open Cert.Alg Cert.KernelIdeal.Attn

/-- On reals for `x`, `Wq` and the keys, and any extended reals for the values and `Wo`: the kernel on four devices, each with its block of
    the keys and of the values, leaves on every device the reference's result on the whole arrays. -/
theorem algebraic : Cert.algebraic_KernelIdeal_ReferenceIdeal_pre_finite_scores_KernelIdeal := by
  intro m g m' g' hpre hag
  have hfin : ∀ c, _ := fun c => Cert.Pre_finite_scores_KernelIdeal.Gen.reals _ _ _ _ _ (hpre c)
  let x : FVec Ideal Cert.ReferenceIdeal.S2x128x512 .f32 := m' (((0 : Dev Cert.ReferenceIdeal.nD).tc : Thread Cert.ReferenceIdeal.nD Cert.ReferenceIdeal.τ).loc Cert.ReferenceIdeal.main_arg0)
  let wq : FVec Ideal Cert.ReferenceIdeal.S512x512 .f32 := m' (((0 : Dev Cert.ReferenceIdeal.nD).tc : Thread Cert.ReferenceIdeal.nD Cert.ReferenceIdeal.τ).loc Cert.ReferenceIdeal.main_arg1)
  let wo : FVec Ideal Cert.ReferenceIdeal.S512x512 .f32 := m' (((0 : Dev Cert.ReferenceIdeal.nD).tc : Thread Cert.ReferenceIdeal.nD Cert.ReferenceIdeal.τ).loc Cert.ReferenceIdeal.main_arg2)
  let k : FVec Ideal Cert.ReferenceIdeal.S2x512x8x64 .f32 := m' (((0 : Dev Cert.ReferenceIdeal.nD).tc : Thread Cert.ReferenceIdeal.nD Cert.ReferenceIdeal.τ).loc Cert.ReferenceIdeal.main_arg3)
  let v : FVec Ideal Cert.ReferenceIdeal.S2x512x8x64 .f32 := m' (((0 : Dev Cert.ReferenceIdeal.nD).tc : Thread Cert.ReferenceIdeal.nD Cert.ReferenceIdeal.τ).loc Cert.ReferenceIdeal.main_arg4)
  have a0 : ∀ c : Dev Cert.KernelIdeal.nD, m ((c.tc : Thread Cert.KernelIdeal.nD Cert.KernelIdeal.τ).loc Cert.KernelIdeal.main_arg0) = x := fun c => (hag c).1
  have a1 : ∀ c : Dev Cert.KernelIdeal.nD, m ((c.tc : Thread Cert.KernelIdeal.nD Cert.KernelIdeal.τ).loc Cert.KernelIdeal.main_arg1) = wq := fun c => (hag c).2.1
  have a2 : ∀ c : Dev Cert.KernelIdeal.nD, m ((c.tc : Thread Cert.KernelIdeal.nD Cert.KernelIdeal.τ).loc Cert.KernelIdeal.main_arg2) = wo := fun c => (hag c).2.2.1
  have a3 : ∀ (c : Dev Cert.KernelIdeal.nD) (b : Fin 2) (j : Fin 128) (h : Fin 8) (e : Fin 64),
      (m ((c.tc : Thread Cert.KernelIdeal.nD Cert.KernelIdeal.τ).loc Cert.KernelIdeal.main_arg3) : FVec Ideal Cert.KernelIdeal.S2x128x8x64 .f32) (ix4 b j h e) = k (ix4 b (gkey c j) h e) :=
    fun c b j h e => (congrFun (hag c).2.2.2.1 (ix4 b j h e)).trans (block_key k c b j h e)
  have a4 : ∀ (c : Dev Cert.KernelIdeal.nD) (b : Fin 2) (j : Fin 128) (h : Fin 8) (e : Fin 64),
      (m ((c.tc : Thread Cert.KernelIdeal.nD Cert.KernelIdeal.τ).loc Cert.KernelIdeal.main_arg4) : FVec Ideal Cert.KernelIdeal.S2x128x8x64 .f32) (ix4 b j h e) = v (ix4 b (gkey c j) h e) :=
    fun c b j h e => (congrFun (hag c).2.2.2.2 (ix4 b j h e)).trans (block_key v c b j h e)
  have hx : ∀ p, x p = ((x p).toReal : EReal) := by
    have h := (hfin 0).1
    rw [a0 0] at h
    exact h
  have hw : ∀ p, wq p = ((wq p).toReal : EReal) := by
    have h := (hfin 0).2.1
    rw [a1 0] at h
    exact h
  have hk4 : ∀ (c : Dev Cert.KernelIdeal.nD) (b : Fin 2) (j : Fin 128) (h : Fin 8) (e : Fin 64), k (ix4 b (gkey c j) h e) = ((k (ix4 b (gkey c j) h e)).toReal : EReal) := by
    intro c b j h e
    have hh := (hfin c).2.2 (ix4 b j h e)
    rw [a3 c b j h e] at hh
    exact hh
  have hk : ∀ p, k p = ((k p).toReal : EReal) := by
    intro p
    obtain ⟨b, j, h, e, rfl⟩ : ∃ (b : Fin 2) (j : Fin 512) (h : Fin 8) (e : Fin 64), p = ix4 b j h e := ⟨p 0, p 1, p 2, p 3, eq_ix4 p⟩
    have hj : j = gkey ⟨j.val / 128, by change _ < 4; omega⟩ ⟨j.val % 128, Nat.mod_lt _ (by decide)⟩ := Fin.ext (by simp only [gkey]; omega)
    rw [hj]
    exact hk4 _ _ _ _ _
  have hval : ∀ c : Dev Cert.KernelIdeal.nD, V₃ m c (Proc.devRef .tc Cert.KernelIdeal.main_v5) = Cert.ReferenceIdeal.Value.res_main_v30 m' 0 := by
    intro c
    rw [V₃_v5]
    funext p
    obtain ⟨b, i, n, rfl⟩ : ∃ (b : Fin 2) (i : Fin 128) (n : Fin 512), p = ix3 b i n := ⟨p 0, p 1, p 2, eq_ix3 p⟩
    refine (unstack _ b i n).trans ?_
    refine Eq.trans ?_ (congrFun (Cert.ReferenceIdeal.Attn.res_eq m' 0).symm (ix3 b i n))
    refine Eq.trans ?_ (Cert.ReferenceIdeal.Attn.refOut_apply wo v b i (x := x) (wq := wq) (k := k) hx hw hk n).symm
    refine outV_eq (I := insM m) (xr := fun b i t => (x (ix3 b i t)).toReal) (wr := fun t n => (wq (ix2 t n)).toReal)
      (kr := fun b j h e => (k (ix4 b j h e)).toReal) (vv := fun b j h e => v (ix4 b j h e)) ?_ ?_ ?_ ?_ c b i n (fun t => wo (ix2 t n)) ?_
    · intro c b i t
      refine (congrFun (V₁_v1 m c) _).trans ((stack_x _ b i t).trans ?_)
      exact (congrFun (a0 c) _).trans (hx _)
    · intro c t n
      refine (congrFun ((V₁_arg1 m c).trans (a1 c)) _).trans (hw _)
    · intro c b j h e
      refine (congrFun (V₁_v2 m c) _).trans ((stack_k _ b j h e).trans ?_)
      exact (a3 c b j h e).trans (hk _)
    · intro c b j h e
      refine (congrFun (V₁_v3 m c) _).trans ((stack_k _ b j h e).trans ?_)
      exact a4 c b j h e
    · intro d t
      exact congrFun ((V₁_arg2 m d).trans (a2 d)) _
  refine ⟨Cert.ReferenceIdeal.Value.res_main_v30 m' 0, ?_, ?_⟩
  · exact (θ_run Cert.KernelIdeal.defs _ _).mono (fun r h c => ⟨((h.1 c).2).trans (hval c), (h.1 c).1⟩)
      (run_main (F := Ideal) m g)
  · exact (θ_run Cert.ReferenceIdeal.defs _ _).mono (fun r h => h 0) (Cert.ReferenceIdeal.Value.run (F := Ideal) m' g')

end Cert.Proof
end
-- ==== Proof.lean ====
/- The claims, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Pre1
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  frame_kernel, frame_ideal, fun m g _ => frame_ideal m g trivial, frame_reference, fun m g _ => frame_reference m g trivial,
  trivial, algebraic⟩

end Cert.Proof

end
